-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S128x8192 : Shape := ⟨2, ![128, 8192]⟩
abbrev S128 : Shape := ⟨1, ![128]⟩
abbrev S4x256 : Shape := ⟨2, ![4, 256]⟩
abbrev S100x256 : Shape := ⟨2, ![100, 256]⟩
abbrev S256x4 : Shape := ⟨2, ![256, 4]⟩
abbrev S4 : Shape := ⟨1, ![4]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S128x8192 32) (main_arg1 : IVec S128 32) (main_arg2 : FVec F S4x256 .f32) (main_arg3 : FVec F S100x256 .f32) (main_arg4 : FVec F S256x4 .f32) (main_arg5 : FVec F S4 .f32) : IVec S_ 1 :=
  let main_c : IVec S_ 32 := constantI S_ 32 0#32
  let main_v0 : IVec S128x8192 32 := broadcastInDim S128x8192 ![] bcast_S_S128x8192 main_c
  let main_v1 : IVec S128x8192 1 := cmpi .sge main_arg0 main_v0
  let main_c_0 : IVec S_ 32 := constantI S_ 32 4#32
  let main_v2 : IVec S128x8192 32 := broadcastInDim S128x8192 ![] bcast_S_S128x8192 main_c_0
  let main_v3 : IVec S128x8192 1 := cmpi .slt main_arg0 main_v2
  let main_v4 : IVec S128x8192 1 := andi main_v1 main_v3
  let main_c_1 : IVec S_ 1 := constantI S_ 1 1#1
  let main_v5 : IVec S_ 1 := (fun x v => Host.reduce IntOp.andi x v reducesTo_S128x8192_S_d0_1 h_S_) main_v4 main_c_1
  let main_c_2 : IVec S_ 32 := constantI S_ 32 0#32
  let main_v6 : IVec S128 32 := broadcastInDim S128 ![] bcast_S_S128 main_c_2
  let main_v7 : IVec S128 1 := cmpi .sge main_arg1 main_v6
  let main_c_3 : IVec S_ 32 := constantI S_ 32 100#32
  let main_v8 : IVec S128 32 := broadcastInDim S128 ![] bcast_S_S128 main_c_3
  let main_v9 : IVec S128 1 := cmpi .slt main_arg1 main_v8
  let main_v10 : IVec S128 1 := andi main_v7 main_v9
  let main_c_4 : IVec S_ 1 := constantI S_ 1 1#1
  let main_v11 : IVec S_ 1 := (fun x v => Host.reduce IntOp.andi x v reducesTo_S128_S_d0 h_S_) main_v10 main_c_4
  let main_v12 : IVec S_ 1 := andi main_v5 main_v11
  main_v12
-- ==== Kernel.lean ====
abbrev S128x8192 : Shape := ⟨2, ![128, 8192]⟩
abbrev S128 : Shape := ⟨1, ![128]⟩
abbrev S4x256 : Shape := ⟨2, ![4, 256]⟩
abbrev S100x256 : Shape := ⟨2, ![100, 256]⟩
abbrev S256x4 : Shape := ⟨2, ![256, 4]⟩
abbrev S4 : Shape := ⟨1, ![4]⟩
abbrev S8x16x8192 : Shape := ⟨3, ![8, 16, 8192]⟩
abbrev S1x4 : Shape := ⟨2, ![1, 4]⟩
abbrev S128x1 : Shape := ⟨2, ![128, 1]⟩
abbrev S1x16x8192 : Shape := ⟨3, ![1, 16, 8192]⟩
abbrev S128x16 : Shape := ⟨2, ![128, 16]⟩
abbrev S128x100 : Shape := ⟨2, ![128, 100]⟩
abbrev S128x256 : Shape := ⟨2, ![128, 256]⟩
abbrev S1x256 : Shape := ⟨2, ![1, 256]⟩
abbrev S128x4 : Shape := ⟨2, ![128, 4]⟩
abbrev S8x1024 : Shape := ⟨2, ![8, 1024]⟩
abbrev S1x16 : Shape := ⟨2, ![1, 16]⟩
abbrev S1x1 : Shape := ⟨2, ![1, 1]⟩
abbrev S1x1x8192 : Shape := ⟨3, ![1, 1, 8192]⟩
abbrev S1x8192 : Shape := ⟨2, ![1, 8192]⟩
abbrev S1x1024 : Shape := ⟨2, ![1, 1024]⟩
abbrev S7x1024 : Shape := ⟨2, ![7, 1024]⟩
abbrev S6x1024 : Shape := ⟨2, ![6, 1024]⟩
abbrev S2x1024 : Shape := ⟨2, ![2, 1024]⟩
abbrev S1x1x1024 : Shape := ⟨3, ![1, 1, 1024]⟩

abbrev nBuf : Space → Nat
  | .hbm => 10
  | .vmem => 10
  | .smem => 0
  | _ => 0

abbrev bufTy : (tb : Table) → Fin (tcTables nBuf tb) → BufTy
  | .hbm, ⟨0, _⟩ => ⟨S128x8192, .i32⟩
  | .hbm, ⟨1, _⟩ => ⟨S128, .i32⟩
  | .hbm, ⟨2, _⟩ => ⟨S4x256, .f32⟩
  | .hbm, ⟨3, _⟩ => ⟨S100x256, .f32⟩
  | .hbm, ⟨4, _⟩ => ⟨S256x4, .f32⟩
  | .hbm, ⟨5, _⟩ => ⟨S4, .f32⟩
  | .hbm, ⟨6, _⟩ => ⟨S8x16x8192, .i32⟩
  | .hbm, ⟨7, _⟩ => ⟨S1x4, .f32⟩
  | .hbm, ⟨8, _⟩ => ⟨S128x1, .i32⟩
  | .hbm, ⟨9, _⟩ => ⟨S8x16x8192, .i32⟩
  | .local _ .vmem, ⟨0, _⟩ => ⟨S1x16x8192, .i32⟩
  | .local _ .vmem, ⟨1, _⟩ => ⟨S1x16x8192, .i32⟩
  | .local _ .vmem, ⟨2, _⟩ => ⟨S128x1, .i32⟩
  | .local _ .vmem, ⟨3, _⟩ => ⟨S4x256, .f32⟩
  | .local _ .vmem, ⟨4, _⟩ => ⟨S100x256, .f32⟩
  | .local _ .vmem, ⟨5, _⟩ => ⟨S256x4, .f32⟩
  | .local _ .vmem, ⟨6, _⟩ => ⟨S1x4, .f32⟩
  | .local _ .vmem, ⟨7, _⟩ => ⟨S1x16x8192, .i32⟩
  | .local _ .vmem, ⟨8, _⟩ => ⟨S1x16x8192, .i32⟩
  | .local _ .vmem, ⟨9, _⟩ => ⟨S128x16, .f32⟩
  | _, _ => ⟨S128x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_off1 (i : grid0.Coords) (c0_i32_4 : BitVec 32) : Fin 2 → Nat :=
  let arg0 : BitVec 32 := BitVec.ofNat 32 (i 0).val
  let c16_i32 : BitVec 32 := 16#32
  let v23 : BitVec 32 := Scalar.muli arg0 c16_i32
  let v24 : BitVec 32 := Scalar.addi v23 c0_i32_4
  let v25 : Index := Scalar.indexCast v24
  let c0 : Index := 0#32
  ![v25.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x8192 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S128x8192 : Shape := ⟨2, ![128, 8192]⟩
abbrev S128 : Shape := ⟨1, ![128]⟩
abbrev S4x256 : Shape := ⟨2, ![4, 256]⟩
abbrev S100x256 : Shape := ⟨2, ![100, 256]⟩
abbrev S256x4 : Shape := ⟨2, ![256, 4]⟩
abbrev S4 : Shape := ⟨1, ![4]⟩
abbrev S_ : Shape := ⟨0, ![]⟩
abbrev S128x8192x1 : Shape := ⟨3, ![128, 8192, 1]⟩
abbrev S1 : Shape := ⟨1, ![1]⟩
abbrev S1x1x1 : Shape := ⟨3, ![1, 1, 1]⟩
abbrev S128x8192x256 : Shape := ⟨3, ![128, 8192, 256]⟩
abbrev S128x1 : Shape := ⟨2, ![128, 1]⟩
abbrev S1x1 : Shape := ⟨2, ![1, 1]⟩
abbrev S128x256 : Shape := ⟨2, ![128, 256]⟩
abbrev S128x1x256 : Shape := ⟨3, ![128, 1, 256]⟩
abbrev S128x8192x4 : Shape := ⟨3, ![128, 8192, 4]⟩
abbrev S1x1x4 : Shape := ⟨3, ![1, 1, 4]⟩
abbrev S8x16x8192 : Shape := ⟨3, ![8, 16, 8192]⟩

abbrev nBuf : Space → Nat
  | .hbm => 394
  | .vmem => 0
  | .smem => 0
  | _ => 0

abbrev hbmTy0_0 (i : Nat) : BufTy := match i % 128 with
  | 0 => ⟨S128x8192, .i32⟩
  | 1 => ⟨S128, .i32⟩
  | 2 => ⟨S4x256, .f32⟩
  | 3 => ⟨S100x256, .f32⟩
  | 4 => ⟨S256x4, .f32⟩
  | 5 => ⟨S4, .f32⟩
  | 6 => ⟨S_, .i32⟩
  | 7 => ⟨S128x8192, .i32⟩
  | 8 => ⟨S128x8192, .i1⟩
  | 9 => ⟨S_, .i32⟩
  | 10 => ⟨S128x8192, .i32⟩
  | 11 => ⟨S128x8192, .i32⟩
  | 12 => ⟨S128x8192, .i32⟩
  | 13 => ⟨S128x8192x1, .i32⟩
  | 14 => ⟨S1, .i32⟩
  | 15 => ⟨S_, .i32⟩
  | 16 => ⟨S128x8192x1, .i32⟩
  | 17 => ⟨S128x8192x1, .i1⟩
  | 18 => ⟨S1x1x1, .i32⟩
  | 19 => ⟨S128x8192x1, .i32⟩
  | 20 => ⟨S128x8192x1, .i1⟩
  | 21 => ⟨S128x8192x1, .i1⟩
  | 22 => ⟨S_, .i1⟩
  | 23 => ⟨S128x8192, .i1⟩
  | 24 => ⟨S128x8192x256, .f32⟩
  | 25 => ⟨S128x8192x256, .i1⟩
  | 26 => ⟨S_, .f32⟩
  | 27 => ⟨S128x8192x256, .f32⟩
  | 28 => ⟨S128x8192x256, .f32⟩
  | 29 => ⟨S_, .i32⟩
  | 30 => ⟨S128, .i32⟩
  | 31 => ⟨S128, .i1⟩
  | 32 => ⟨S_, .i32⟩
  | 33 => ⟨S128, .i32⟩
  | 34 => ⟨S128, .i32⟩
  | 35 => ⟨S128, .i32⟩
  | 36 => ⟨S128x1, .i32⟩
  | 37 => ⟨S1, .i32⟩
  | 38 => ⟨S_, .i32⟩
  | 39 => ⟨S128x1, .i32⟩
  | 40 => ⟨S128x1, .i1⟩
  | 41 => ⟨S1x1, .i32⟩
  | 42 => ⟨S128x1, .i32⟩
  | 43 => ⟨S128x1, .i1⟩
  | 44 => ⟨S128x1, .i1⟩
  | 45 => ⟨S_, .i1⟩
  | 46 => ⟨S128, .i1⟩
  | 47 => ⟨S128x256, .f32⟩
  | 48 => ⟨S128x256, .i1⟩
  | 49 => ⟨S_, .f32⟩
  | 50 => ⟨S128x256, .f32⟩
  | 51 => ⟨S128x256, .f32⟩
  | 52 => ⟨S128x1x256, .f32⟩
  | 53 => ⟨S128x8192x256, .f32⟩
  | 54 => ⟨S128x8192x256, .f32⟩
  | 55 => ⟨S128x8192x256, .f32⟩
  | 56 => ⟨S128x8192x256, .f32⟩
  | 57 => ⟨S_, .f32⟩
  | 58 => ⟨S128x8192x256, .f32⟩
  | 59 => ⟨S128x8192x256, .f32⟩
  | 60 => ⟨S128x8192x256, .f32⟩
  | 61 => ⟨S_, .f32⟩
  | 62 => ⟨S128x8192x256, .f32⟩
  | 63 => ⟨S128x8192x256, .f32⟩
  | 64 => ⟨S128x8192x256, .f32⟩
  | 65 => ⟨S_, .f32⟩
  | 66 => ⟨S128x8192x256, .f32⟩
  | 67 => ⟨S128x8192x256, .f32⟩
  | 68 => ⟨S_, .f32⟩
  | 69 => ⟨S128x8192x256, .f32⟩
  | 70 => ⟨S128x8192x256, .f32⟩
  | 71 => ⟨S128x8192x256, .f32⟩
  | 72 => ⟨S128x8192x4, .f32⟩
  | 73 => ⟨S1x1x4, .f32⟩
  | 74 => ⟨S128x8192x4, .f32⟩
  | 75 => ⟨S128x8192x4, .f32⟩
  | 76 => ⟨S_, .f32⟩
  | 77 => ⟨S128x8192, .f32⟩
  | 78 => ⟨S_, .f32⟩
  | 79 => ⟨S128x8192, .f32⟩
  | 80 => ⟨S128x8192, .f32⟩
  | 81 => ⟨S128x8192x1, .f32⟩
  | 82 => ⟨S128x8192x4, .f32⟩
  | 83 => ⟨S128x8192x4, .f32⟩
  | 84 => ⟨S128x8192x4, .f32⟩
  | 85 => ⟨S_, .f32⟩
  | 86 => ⟨S128x8192, .f32⟩
  | 87 => ⟨S128x8192x1, .f32⟩
  | 88 => ⟨S128x8192x4, .f32⟩
  | 89 => ⟨S128x8192x4, .f32⟩
  | 90 => ⟨S128x8192x4, .i32⟩
  | 91 => ⟨S128x8192x4, .i32⟩
  | 92 => ⟨S128x8192x4, .i32⟩
  | 93 => ⟨S_, .i32⟩
  | 94 => ⟨S128x8192x4, .i32⟩
  | 95 => ⟨S_, .i32⟩
  | 96 => ⟨S128x8192x4, .i32⟩
  | 97 => ⟨S128x8192x4, .i32⟩
  | 98 => ⟨S_, .i32⟩
  | 99 => ⟨S128x8192x4, .i32⟩
  | 100 => ⟨S128x8192x4, .i32⟩
  | 101 => ⟨S_, .i32⟩
  | 102 => ⟨S128x8192x4, .i32⟩
  | 103 => ⟨S128x8192x4, .i32⟩
  | 104 => ⟨S128x8192x4, .i32⟩
  | 105 => ⟨S128x8192x4, .i32⟩
  | 106 => ⟨S_, .i32⟩
  | 107 => ⟨S128x8192x4, .i32⟩
  | 108 => ⟨S128x8192x4, .i32⟩
  | 109 => ⟨S128x8192x4, .i32⟩
  | 110 => ⟨S_, .i32⟩
  | 111 => ⟨S128x8192x4, .i32⟩
  | 112 => ⟨S128x8192x4, .i32⟩
  | 113 => ⟨S_, .i32⟩
  | 114 => ⟨S128x8192x4, .i32⟩
  | 115 => ⟨S128x8192x4, .i32⟩
  | 116 => ⟨S128x8192x4, .i32⟩
  | 117 => ⟨S128x8192x4, .i32⟩
  | 118 => ⟨S128x8192x4, .i32⟩
  | 119 => ⟨S_, .i32⟩
  | 120 => ⟨S128x8192x4, .i32⟩
  | 121 => ⟨S128x8192x4, .i32⟩
  | 122 => ⟨S_, .i32⟩
  | 123 => ⟨S128x8192x4, .i32⟩
  | 124 => ⟨S128x8192x4, .i32⟩
  | 125 => ⟨S128x8192x4, .i32⟩
  | 126 => ⟨S128x8192x4, .i32⟩
  | 127 => ⟨S128x8192x4, .i32⟩
  | _ => ⟨S128x8192, .i32⟩

abbrev hbmTy0_1 (i : Nat) : BufTy := match i % 128 with
  | 0 => ⟨S_, .i32⟩
  | 1 => ⟨S128x8192x4, .i32⟩
  | 2 => ⟨S128x8192x4, .i32⟩
  | 3 => ⟨S_, .i32⟩
  | 4 => ⟨S128x8192x4, .i32⟩
  | 5 => ⟨S128x8192x4, .i32⟩
  | 6 => ⟨S128x8192x4, .i32⟩
  | 7 => ⟨S128x8192x4, .i32⟩
  | 8 => ⟨S128x8192x4, .i32⟩
  | 9 => ⟨S_, .i32⟩
  | 10 => ⟨S128x8192x4, .i32⟩
  | 11 => ⟨S128x8192x4, .i32⟩
  | 12 => ⟨S_, .i32⟩
  | 13 => ⟨S128x8192x4, .i32⟩
  | 14 => ⟨S128x8192x4, .i32⟩
  | 15 => ⟨S128x8192x4, .i32⟩
  | 16 => ⟨S128x8192x4, .i32⟩
  | 17 => ⟨S_, .i32⟩
  | 18 => ⟨S128x8192x4, .i32⟩
  | 19 => ⟨S128x8192x4, .i32⟩
  | 20 => ⟨S_, .i32⟩
  | 21 => ⟨S128x8192x4, .i32⟩
  | 22 => ⟨S128x8192x4, .i32⟩
  | 23 => ⟨S_, .i32⟩
  | 24 => ⟨S128x8192x4, .i32⟩
  | 25 => ⟨S128x8192x4, .i32⟩
  | 26 => ⟨S128x8192x4, .i32⟩
  | 27 => ⟨S_, .i32⟩
  | 28 => ⟨S128x8192x4, .i32⟩
  | 29 => ⟨S128x8192x4, .i32⟩
  | 30 => ⟨S_, .i32⟩
  | 31 => ⟨S128x8192x4, .i32⟩
  | 32 => ⟨S128x8192x4, .i32⟩
  | 33 => ⟨S128x8192x4, .i32⟩
  | 34 => ⟨S128x8192x4, .i32⟩
  | 35 => ⟨S128x8192x4, .i32⟩
  | 36 => ⟨S_, .i32⟩
  | 37 => ⟨S128x8192x4, .i32⟩
  | 38 => ⟨S128x8192x4, .i32⟩
  | 39 => ⟨S_, .i32⟩
  | 40 => ⟨S128x8192x4, .i32⟩
  | 41 => ⟨S128x8192x4, .i32⟩
  | 42 => ⟨S128x8192x4, .i32⟩
  | 43 => ⟨S128x8192x4, .i32⟩
  | 44 => ⟨S128x8192x4, .i32⟩
  | 45 => ⟨S_, .i32⟩
  | 46 => ⟨S128x8192x4, .i32⟩
  | 47 => ⟨S128x8192x4, .i32⟩
  | 48 => ⟨S_, .i32⟩
  | 49 => ⟨S128x8192x4, .i32⟩
  | 50 => ⟨S128x8192x4, .i32⟩
  | 51 => ⟨S128x8192x4, .i32⟩
  | 52 => ⟨S128x8192x4, .i32⟩
  | 53 => ⟨S128x8192x4, .i32⟩
  | 54 => ⟨S_, .i32⟩
  | 55 => ⟨S128x8192x4, .i32⟩
  | 56 => ⟨S128x8192x4, .i32⟩
  | 57 => ⟨S_, .i32⟩
  | 58 => ⟨S128x8192x4, .i32⟩
  | 59 => ⟨S128x8192x4, .i32⟩
  | 60 => ⟨S128x8192x4, .i32⟩
  | 61 => ⟨S128x8192x4, .i32⟩
  | 62 => ⟨S_, .i32⟩
  | 63 => ⟨S128x8192x4, .i32⟩
  | 64 => ⟨S128x8192x4, .i32⟩
  | 65 => ⟨S_, .i32⟩
  | 66 => ⟨S128x8192x4, .i32⟩
  | 67 => ⟨S128x8192x4, .i32⟩
  | 68 => ⟨S_, .i32⟩
  | 69 => ⟨S128x8192x4, .i32⟩
  | 70 => ⟨S128x8192x4, .i32⟩
  | 71 => ⟨S128x8192x4, .i32⟩
  | 72 => ⟨S_, .i32⟩
  | 73 => ⟨S128x8192x4, .i32⟩
  | 74 => ⟨S128x8192x4, .i32⟩
  | 75 => ⟨S_, .i32⟩
  | 76 => ⟨S128x8192x4, .i32⟩
  | 77 => ⟨S128x8192x4, .i32⟩
  | 78 => ⟨S128x8192x4, .i32⟩
  | 79 => ⟨S128x8192x4, .i32⟩
  | 80 => ⟨S128x8192x4, .i32⟩
  | 81 => ⟨S_, .i32⟩
  | 82 => ⟨S128x8192x4, .i32⟩
  | 83 => ⟨S128x8192x4, .i32⟩
  | 84 => ⟨S_, .i32⟩
  | 85 => ⟨S128x8192x4, .i32⟩
  | 86 => ⟨S128x8192x4, .i32⟩
  | 87 => ⟨S128x8192x4, .i32⟩
  | 88 => ⟨S128x8192x4, .i32⟩
  | 89 => ⟨S128x8192x4, .i32⟩
  | 90 => ⟨S_, .i32⟩
  | 91 => ⟨S128x8192x4, .i32⟩
  | 92 => ⟨S128x8192x4, .i32⟩
  | 93 => ⟨S_, .i32⟩
  | 94 => ⟨S128x8192x4, .i32⟩
  | 95 => ⟨S128x8192x4, .i32⟩
  | 96 => ⟨S128x8192x4, .i32⟩
  | 97 => ⟨S128x8192x4, .i32⟩
  | 98 => ⟨S128x8192x4, .i32⟩
  | 99 => ⟨S_, .i32⟩
  | 100 => ⟨S128x8192x4, .i32⟩
  | 101 => ⟨S128x8192x4, .i32⟩
  | 102 => ⟨S_, .i32⟩
  | 103 => ⟨S128x8192x4, .i32⟩
  | 104 => ⟨S128x8192x4, .i32⟩
  | 105 => ⟨S128x8192x4, .i32⟩
  | 106 => ⟨S128x8192x4, .i32⟩
  | 107 => ⟨S_, .i32⟩
  | 108 => ⟨S128x8192x4, .i32⟩
  | 109 => ⟨S128x8192x4, .i32⟩
  | 110 => ⟨S_, .i32⟩
  | 111 => ⟨S128x8192x4, .i32⟩
  | 112 => ⟨S128x8192x4, .i32⟩
  | 113 => ⟨S_, .i32⟩
  | 114 => ⟨S128x8192x4, .i32⟩
  | 115 => ⟨S128x8192x4, .i32⟩
  | 116 => ⟨S128x8192x4, .i32⟩
  | 117 => ⟨S_, .i32⟩
  | 118 => ⟨S128x8192x4, .i32⟩
  | 119 => ⟨S128x8192x4, .i32⟩
  | 120 => ⟨S_, .i32⟩
  | 121 => ⟨S128x8192x4, .i32⟩
  | 122 => ⟨S128x8192x4, .i32⟩
  | 123 => ⟨S128x8192x4, .i32⟩
  | 124 => ⟨S128x8192x4, .i32⟩
  | 125 => ⟨S128x8192x4, .i32⟩
  | 126 => ⟨S_, .i32⟩
  | 127 => ⟨S128x8192x4, .i32⟩
  | _ => ⟨S128x8192, .i32⟩

abbrev hbmTy0_2 (i : Nat) : BufTy := match i % 128 with
  | 0 => ⟨S128x8192x4, .i32⟩
  | 1 => ⟨S_, .i32⟩
  | 2 => ⟨S128x8192x4, .i32⟩
  | 3 => ⟨S128x8192x4, .i32⟩
  | 4 => ⟨S128x8192x4, .i32⟩
  | 5 => ⟨S128x8192x4, .i32⟩
  | 6 => ⟨S128x8192x4, .i32⟩
  | 7 => ⟨S_, .i32⟩
  | 8 => ⟨S128x8192x4, .i32⟩
  | 9 => ⟨S128x8192x4, .i32⟩
  | 10 => ⟨S_, .i32⟩
  | 11 => ⟨S128x8192x4, .i32⟩
  | 12 => ⟨S128x8192x4, .i32⟩
  | 13 => ⟨S128x8192x4, .i32⟩
  | 14 => ⟨S128x8192x4, .i32⟩
  | 15 => ⟨S128x8192x4, .i32⟩
  | 16 => ⟨S_, .i32⟩
  | 17 => ⟨S128x8192x4, .i32⟩
  | 18 => ⟨S128x8192x4, .i32⟩
  | 19 => ⟨S_, .i32⟩
  | 20 => ⟨S128x8192x4, .i32⟩
  | 21 => ⟨S128x8192x4, .i32⟩
  | 22 => ⟨S128x8192x4, .i32⟩
  | 23 => ⟨S128x8192x4, .i32⟩
  | 24 => ⟨S_, .i32⟩
  | 25 => ⟨S128x8192x4, .i32⟩
  | 26 => ⟨S128x8192x4, .i32⟩
  | 27 => ⟨S_, .i32⟩
  | 28 => ⟨S128x8192x4, .i32⟩
  | 29 => ⟨S128x8192x4, .i32⟩
  | 30 => ⟨S_, .i32⟩
  | 31 => ⟨S128x8192x4, .i32⟩
  | 32 => ⟨S128x8192x4, .i32⟩
  | 33 => ⟨S128x8192x4, .i32⟩
  | 34 => ⟨S_, .i32⟩
  | 35 => ⟨S128x8192x4, .i32⟩
  | 36 => ⟨S128x8192x4, .i32⟩
  | 37 => ⟨S_, .i32⟩
  | 38 => ⟨S128x8192x4, .i32⟩
  | 39 => ⟨S128x8192x4, .i32⟩
  | 40 => ⟨S128x8192x4, .i32⟩
  | 41 => ⟨S128x8192x4, .i32⟩
  | 42 => ⟨S128x8192x4, .i32⟩
  | 43 => ⟨S_, .i32⟩
  | 44 => ⟨S128x8192x4, .i32⟩
  | 45 => ⟨S128x8192x4, .i32⟩
  | 46 => ⟨S_, .i32⟩
  | 47 => ⟨S128x8192x4, .i32⟩
  | 48 => ⟨S128x8192x4, .i32⟩
  | 49 => ⟨S128x8192x4, .i32⟩
  | 50 => ⟨S128x8192x4, .i32⟩
  | 51 => ⟨S128x8192x4, .i32⟩
  | 52 => ⟨S_, .i32⟩
  | 53 => ⟨S128x8192x4, .i32⟩
  | 54 => ⟨S128x8192x4, .i32⟩
  | 55 => ⟨S_, .i32⟩
  | 56 => ⟨S128x8192x4, .i32⟩
  | 57 => ⟨S128x8192x4, .i32⟩
  | 58 => ⟨S128x8192x4, .i32⟩
  | 59 => ⟨S128x8192x4, .i32⟩
  | 60 => ⟨S128x8192x4, .i32⟩
  | 61 => ⟨S_, .i32⟩
  | 62 => ⟨S128x8192x4, .i32⟩
  | 63 => ⟨S128x8192x4, .i32⟩
  | 64 => ⟨S_, .i32⟩
  | 65 => ⟨S128x8192x4, .i32⟩
  | 66 => ⟨S128x8192x4, .i32⟩
  | 67 => ⟨S128x8192x4, .i32⟩
  | 68 => ⟨S128x8192x4, .i32⟩
  | 69 => ⟨S_, .i32⟩
  | 70 => ⟨S128x8192x4, .i32⟩
  | 71 => ⟨S128x8192x4, .i32⟩
  | 72 => ⟨S_, .i32⟩
  | 73 => ⟨S128x8192x4, .i32⟩
  | 74 => ⟨S128x8192x4, .i32⟩
  | 75 => ⟨S_, .i32⟩
  | 76 => ⟨S128x8192x4, .i32⟩
  | 77 => ⟨S128x8192x4, .i32⟩
  | 78 => ⟨S128x8192x4, .i32⟩
  | 79 => ⟨S_, .i32⟩
  | 80 => ⟨S128x8192x4, .i32⟩
  | 81 => ⟨S128x8192x4, .i32⟩
  | 82 => ⟨S_, .i32⟩
  | 83 => ⟨S128x8192x4, .i32⟩
  | 84 => ⟨S128x8192x4, .i32⟩
  | 85 => ⟨S128x8192x4, .f32⟩
  | 86 => ⟨S_, .f32⟩
  | 87 => ⟨S128x8192x4, .f32⟩
  | 88 => ⟨S128x8192x4, .f32⟩
  | 89 => ⟨S_, .f32⟩
  | 90 => ⟨S128x8192x4, .f32⟩
  | 91 => ⟨S128x8192x4, .f32⟩
  | 92 => ⟨S_, .f32⟩
  | 93 => ⟨S128x8192x4, .f32⟩
  | 94 => ⟨S128x8192x4, .f32⟩
  | 95 => ⟨S_, .f32⟩
  | 96 => ⟨S128x8192x4, .f32⟩
  | 97 => ⟨S128x8192x4, .f32⟩
  | 98 => ⟨S128x8192x4, .f32⟩
  | 99 => ⟨S128x8192x4, .f32⟩
  | 100 => ⟨S128x8192x4, .f32⟩
  | 101 => ⟨S128x8192x4, .f32⟩
  | 102 => ⟨S_, .f32⟩
  | 103 => ⟨S128x8192x4, .f32⟩
  | 104 => ⟨S128x8192x4, .f32⟩
  | 105 => ⟨S128x8192x4, .f32⟩
  | 106 => ⟨S128x8192x4, .f32⟩
  | 107 => ⟨S128x8192x4, .i32⟩
  | 108 => ⟨S_, .f32⟩
  | 109 => ⟨S128x8192, .f32⟩
  | 110 => ⟨S128x8192x1, .f32⟩
  | 111 => ⟨S128x8192x4, .f32⟩
  | 112 => ⟨S128x8192x4, .i1⟩
  | 113 => ⟨S_, .i32⟩
  | 114 => ⟨S_, .i32⟩
  | 115 => ⟨S128x8192x4, .i32⟩
  | 116 => ⟨S128x8192x4, .i32⟩
  | 117 => ⟨S_, .i32⟩
  | 118 => ⟨S128x8192, .i32⟩
  | 119 => ⟨S128x8192x4, .i32⟩
  | 120 => ⟨S_, .f32⟩
  | 121 => ⟨S128x8192, .f32⟩
  | 122 => ⟨S128x8192x1, .f32⟩
  | 123 => ⟨S128x8192x4, .f32⟩
  | 124 => ⟨S128x8192x4, .i1⟩
  | 125 => ⟨S_, .i32⟩
  | 126 => ⟨S_, .i32⟩
  | 127 => ⟨S128x8192x4, .i32⟩
  | _ => ⟨S128x8192, .i32⟩

abbrev hbmTy0_3 (i : Nat) : BufTy := match i % 128 with
  | 0 => ⟨S128x8192x4, .i32⟩
  | 1 => ⟨S_, .i32⟩
  | 2 => ⟨S128x8192, .i32⟩
  | 3 => ⟨S_, .i32⟩
  | 4 => ⟨S128, .i32⟩
  | 5 => ⟨S128, .i1⟩
  | 6 => ⟨S128x1, .i1⟩
  | 7 => ⟨S128x8192, .i1⟩
  | 8 => ⟨S128x8192, .i32⟩
  | 9 => ⟨S8x16x8192, .i32⟩
  | _ => ⟨S128x8192, .i32⟩

abbrev hbmTy (i : Nat) : BufTy := match i / 128 with
  | 0 => hbmTy0_0 i
  | 1 => hbmTy0_1 i
  | 2 => hbmTy0_2 i
  | 3 => hbmTy0_3 i
  | _ => ⟨S128x8192, .i32⟩

abbrev bufTy : (tb : Table) → Fin (tcTables nBuf tb) → BufTy
  | .hbm, ⟨i, _⟩ => hbmTy i
  | _, _ => ⟨S128x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_cst_0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_cst_1 : Ref sig .tc := ⟨.hbm, 65, rfl⟩
abbrev main_v13 : Ref sig .tc := ⟨.hbm, 66, rfl⟩
abbrev main_v14 : Ref sig .tc := ⟨.hbm, 67, rfl⟩
abbrev main_cst_2 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_3 : Ref sig .tc := ⟨.hbm, 76, rfl⟩
abbrev main_v22 : Ref sig .tc := ⟨.hbm, 77, rfl⟩
abbrev main_cst_4 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_cst_5 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_c : Ref sig .tc := ⟨.hbm, 93, rfl⟩
abbrev main_v36 : Ref sig .tc := ⟨.hbm, 94, rfl⟩
abbrev main_c_6 : Ref sig .tc := ⟨.hbm, 95, rfl⟩
abbrev main_v37 : Ref sig .tc := ⟨.hbm, 96, rfl⟩
abbrev main_v38 : Ref sig .tc := ⟨.hbm, 97, rfl⟩
abbrev main_c_7 : Ref sig .tc := ⟨.hbm, 98, rfl⟩
abbrev main_v39 : Ref sig .tc := ⟨.hbm, 99, rfl⟩
abbrev main_v40 : Ref sig .tc := ⟨.hbm, 100, rfl⟩
abbrev main_c_8 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_c_9 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_c_10 : Ref sig .tc := ⟨.hbm, 110, rfl⟩
abbrev main_v48 : Ref sig .tc := ⟨.hbm, 111, rfl⟩
abbrev main_v49 : Ref sig .tc := ⟨.hbm, 112, rfl⟩
abbrev main_c_11 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_c_12 : Ref sig .tc := ⟨.hbm, 119, rfl⟩
abbrev main_v55 : Ref sig .tc := ⟨.hbm, 120, rfl⟩
abbrev main_v56 : Ref sig .tc := ⟨.hbm, 121, rfl⟩
abbrev main_c_13 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_c_14 : Ref sig .tc := ⟨.hbm, 128, rfl⟩
abbrev main_v62 : Ref sig .tc := ⟨.hbm, 129, rfl⟩
abbrev main_v63 : Ref sig .tc := ⟨.hbm, 130, rfl⟩
abbrev main_c_15 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_c_16 : Ref sig .tc := ⟨.hbm, 137, rfl⟩
abbrev main_v69 : Ref sig .tc := ⟨.hbm, 138, rfl⟩
abbrev main_v70 : Ref sig .tc := ⟨.hbm, 139, rfl⟩
abbrev main_c_17 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_c_18 : Ref sig .tc := ⟨.hbm, 145, rfl⟩
abbrev main_v75 : Ref sig .tc := ⟨.hbm, 146, rfl⟩
abbrev main_v76 : Ref sig .tc := ⟨.hbm, 147, rfl⟩
abbrev main_c_19 : Ref sig .tc := ⟨.hbm, 148, rfl⟩
abbrev main_v77 : Ref sig .tc := ⟨.hbm, 149, rfl⟩
abbrev main_v78 : Ref sig .tc := ⟨.hbm, 150, rfl⟩
abbrev main_c_20 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_c_21 : Ref sig .tc := ⟨.hbm, 155, rfl⟩
abbrev main_v82 : Ref sig .tc := ⟨.hbm, 156, rfl⟩
abbrev main_v83 : Ref sig .tc := ⟨.hbm, 157, rfl⟩
abbrev main_c_22 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_c_23 : Ref sig .tc := ⟨.hbm, 164, rfl⟩
abbrev main_v89 : Ref sig .tc := ⟨.hbm, 165, rfl⟩
abbrev main_v90 : Ref sig .tc := ⟨.hbm, 166, rfl⟩
abbrev main_c_24 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_c_25 : Ref sig .tc := ⟨.hbm, 173, rfl⟩
abbrev main_v96 : Ref sig .tc := ⟨.hbm, 174, rfl⟩
abbrev main_v97 : Ref sig .tc := ⟨.hbm, 175, rfl⟩
abbrev main_c_26 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_c_27 : Ref sig .tc := ⟨.hbm, 182, rfl⟩
abbrev main_v103 : Ref sig .tc := ⟨.hbm, 183, rfl⟩
abbrev main_v104 : Ref sig .tc := ⟨.hbm, 184, rfl⟩
abbrev main_c_28 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_c_29 : Ref sig .tc := ⟨.hbm, 190, rfl⟩
abbrev main_v109 : Ref sig .tc := ⟨.hbm, 191, rfl⟩
abbrev main_v110 : Ref sig .tc := ⟨.hbm, 192, rfl⟩
abbrev main_c_30 : Ref sig .tc := ⟨.hbm, 193, rfl⟩
abbrev main_v111 : Ref sig .tc := ⟨.hbm, 194, rfl⟩
abbrev main_v112 : Ref sig .tc := ⟨.hbm, 195, rfl⟩
abbrev main_c_31 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_c_32 : Ref sig .tc := ⟨.hbm, 200, rfl⟩
abbrev main_v116 : Ref sig .tc := ⟨.hbm, 201, rfl⟩
abbrev main_v117 : Ref sig .tc := ⟨.hbm, 202, rfl⟩
abbrev main_c_33 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_c_34 : Ref sig .tc := ⟨.hbm, 209, rfl⟩
abbrev main_v123 : Ref sig .tc := ⟨.hbm, 210, rfl⟩
abbrev main_v124 : Ref sig .tc := ⟨.hbm, 211, rfl⟩
abbrev main_c_35 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_c_36 : Ref sig .tc := ⟨.hbm, 218, rfl⟩
abbrev main_v130 : Ref sig .tc := ⟨.hbm, 219, rfl⟩
abbrev main_v131 : Ref sig .tc := ⟨.hbm, 220, rfl⟩
abbrev main_c_37 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_c_38 : Ref sig .tc := ⟨.hbm, 227, rfl⟩
abbrev main_v137 : Ref sig .tc := ⟨.hbm, 228, rfl⟩
abbrev main_v138 : Ref sig .tc := ⟨.hbm, 229, rfl⟩
abbrev main_c_39 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_c_40 : Ref sig .tc := ⟨.hbm, 235, rfl⟩
abbrev main_v143 : Ref sig .tc := ⟨.hbm, 236, rfl⟩
abbrev main_v144 : Ref sig .tc := ⟨.hbm, 237, rfl⟩
abbrev main_c_41 : Ref sig .tc := ⟨.hbm, 238, rfl⟩
abbrev main_v145 : Ref sig .tc := ⟨.hbm, 239, rfl⟩
abbrev main_v146 : Ref sig .tc := ⟨.hbm, 240, rfl⟩
abbrev main_c_42 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_c_43 : Ref sig .tc := ⟨.hbm, 245, rfl⟩
abbrev main_v150 : Ref sig .tc := ⟨.hbm, 246, rfl⟩
abbrev main_v151 : Ref sig .tc := ⟨.hbm, 247, rfl⟩
abbrev main_c_44 : Ref sig .tc := ⟨.hbm, 248, rfl⟩
abbrev main_v152 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_c_45 : Ref sig .tc := ⟨.hbm, 254, rfl⟩
abbrev main_v157 : Ref sig .tc := ⟨.hbm, 255, rfl⟩
abbrev main_v158 : Ref sig .tc := ⟨.hbm, 256, rfl⟩
abbrev main_c_46 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_c_47 : Ref sig .tc := ⟨.hbm, 263, rfl⟩
abbrev main_v164 : Ref sig .tc := ⟨.hbm, 264, rfl⟩
abbrev main_v165 : Ref sig .tc := ⟨.hbm, 265, rfl⟩
abbrev main_c_48 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_c_49 : Ref sig .tc := ⟨.hbm, 272, rfl⟩
abbrev main_v171 : Ref sig .tc := ⟨.hbm, 273, rfl⟩
abbrev main_v172 : Ref sig .tc := ⟨.hbm, 274, rfl⟩
abbrev main_c_50 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_c_51 : Ref sig .tc := ⟨.hbm, 280, rfl⟩
abbrev main_v177 : Ref sig .tc := ⟨.hbm, 281, rfl⟩
abbrev main_v178 : Ref sig .tc := ⟨.hbm, 282, rfl⟩
abbrev main_c_52 : Ref sig .tc := ⟨.hbm, 283, rfl⟩
abbrev main_v179 : Ref sig .tc := ⟨.hbm, 284, rfl⟩
abbrev main_v180 : Ref sig .tc := ⟨.hbm, 285, rfl⟩
abbrev main_c_53 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_c_54 : Ref sig .tc := ⟨.hbm, 290, rfl⟩
abbrev main_v184 : Ref sig .tc := ⟨.hbm, 291, rfl⟩
abbrev main_v185 : Ref sig .tc := ⟨.hbm, 292, rfl⟩
abbrev main_c_55 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_c_56 : Ref sig .tc := ⟨.hbm, 299, rfl⟩
abbrev main_v191 : Ref sig .tc := ⟨.hbm, 300, rfl⟩
abbrev main_v192 : Ref sig .tc := ⟨.hbm, 301, rfl⟩
abbrev main_c_57 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_c_58 : Ref sig .tc := ⟨.hbm, 308, rfl⟩
abbrev main_v198 : Ref sig .tc := ⟨.hbm, 309, rfl⟩
abbrev main_v199 : Ref sig .tc := ⟨.hbm, 310, rfl⟩
abbrev main_c_59 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_c_60 : Ref sig .tc := ⟨.hbm, 317, rfl⟩
abbrev main_v205 : Ref sig .tc := ⟨.hbm, 318, rfl⟩
abbrev main_v206 : Ref sig .tc := ⟨.hbm, 319, rfl⟩
abbrev main_c_61 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_c_62 : Ref sig .tc := ⟨.hbm, 325, rfl⟩
abbrev main_v211 : Ref sig .tc := ⟨.hbm, 326, rfl⟩
abbrev main_v212 : Ref sig .tc := ⟨.hbm, 327, rfl⟩
abbrev main_c_63 : Ref sig .tc := ⟨.hbm, 328, rfl⟩
abbrev main_v213 : Ref sig .tc := ⟨.hbm, 329, rfl⟩
abbrev main_v214 : Ref sig .tc := ⟨.hbm, 330, rfl⟩
abbrev main_c_64 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_c_65 : Ref sig .tc := ⟨.hbm, 335, rfl⟩
abbrev main_v218 : Ref sig .tc := ⟨.hbm, 336, rfl⟩
abbrev main_v219 : Ref sig .tc := ⟨.hbm, 337, rfl⟩
abbrev main_c_66 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_cst_67 : Ref sig .tc := ⟨.hbm, 342, rfl⟩
abbrev main_v223 : Ref sig .tc := ⟨.hbm, 343, rfl⟩
abbrev main_v224 : Ref sig .tc := ⟨.hbm, 344, rfl⟩
abbrev main_cst_68 : Ref sig .tc := ⟨.hbm, 345, rfl⟩
abbrev main_v225 : Ref sig .tc := ⟨.hbm, 346, rfl⟩
abbrev main_v226 : Ref sig .tc := ⟨.hbm, 347, rfl⟩
abbrev main_cst_69 : Ref sig .tc := ⟨.hbm, 348, rfl⟩
abbrev main_v227 : Ref sig .tc := ⟨.hbm, 349, rfl⟩
abbrev main_v228 : Ref sig .tc := ⟨.hbm, 350, rfl⟩
abbrev main_cst_70 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_cst_71 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_cst_72 : Ref sig .tc := ⟨.hbm, 364, rfl⟩
abbrev main_v240 : Ref sig .tc := ⟨.hbm, 365, rfl⟩
abbrev main_v241 : Ref sig .tc := ⟨.hbm, 366, rfl⟩
abbrev main_v242 : Ref sig .tc := ⟨.hbm, 367, rfl⟩
abbrev main_v243 : Ref sig .tc := ⟨.hbm, 368, rfl⟩
abbrev main_c_73 : Ref sig .tc := ⟨.hbm, 369, rfl⟩
abbrev main_call2_v0 : Ref sig .tc := ⟨.hbm, 370, rfl⟩
abbrev main_call2_v1 : Ref sig .tc := ⟨.hbm, 371, rfl⟩
abbrev main_v244 : Ref sig .tc := ⟨.hbm, 372, rfl⟩
abbrev main_c_74 : Ref sig .tc := ⟨.hbm, 373, rfl⟩
abbrev main_v245 : Ref sig .tc := ⟨.hbm, 374, rfl⟩
abbrev main_v246 : Ref sig .tc := ⟨.hbm, 375, rfl⟩
abbrev main_cst_75 : Ref sig .tc := ⟨.hbm, 376, rfl⟩
abbrev main_v247 : Ref sig .tc := ⟨.hbm, 377, rfl⟩
abbrev main_v248 : Ref sig .tc := ⟨.hbm, 378, rfl⟩
abbrev main_v249 : Ref sig .tc := ⟨.hbm, 379, rfl⟩
abbrev main_v250 : Ref sig .tc := ⟨.hbm, 380, rfl⟩
abbrev main_c_76 : Ref sig .tc := ⟨.hbm, 381, rfl⟩
abbrev main_call3_v0 : Ref sig .tc := ⟨.hbm, 382, rfl⟩
abbrev main_call3_v1 : Ref sig .tc := ⟨.hbm, 383, rfl⟩
abbrev main_v251 : Ref sig .tc := ⟨.hbm, 384, rfl⟩
abbrev main_c_77 : Ref sig .tc := ⟨.hbm, 385, rfl⟩
abbrev main_v252 : Ref sig .tc := ⟨.hbm, 386, rfl⟩
abbrev main_c_78 : Ref sig .tc := ⟨.hbm, 387, rfl⟩
abbrev main_v253 : Ref sig .tc := ⟨.hbm, 388, rfl⟩
abbrev main_v254 : Ref sig .tc := ⟨.hbm, 389, rfl⟩
abbrev main_v255 : Ref sig .tc := ⟨.hbm, 390, rfl⟩
abbrev main_call4_v0 : Ref sig .tc := ⟨.hbm, 391, rfl⟩
abbrev main_v256 : Ref sig .tc := ⟨.hbm, 392, rfl⟩
abbrev main_v257 : Ref sig .tc := ⟨.hbm, 393, rfl⟩

abbrev nD : Nat := 1
abbrev τ : Topo := Topo.v7x

variable {F : FTy → Type} [FloatOps F]
-- ==== Proof.Chunk.lean ====
/- One chunk of the kernel's body as functions of the row, the column block and what the body loads: the printed
   operations once, and the list of the stores that a grid point makes, row by row and block by block. -/
module

public import proofs.«01_k».proof.Proof.Gen.KernelIdeal.Value

@[expose] public section

noncomputable section

namespace Cert.Proof

open Cert.KernelIdeal Cert.KernelIdeal.Gen Idealize.ShloMosaic Idealize.ShloMosaic.TcCoe Idealize.SL.Sem

variable {F : FTy → Type} [FloatOps F]

/-- A vector of words rotated left by `a` bits, `b` being `32 - a`. -/
def rotV (a b : BitVec 32) (x : IVec S8x1024 32) : IVec S8x1024 32 :=
  ori (shli x (broadcast S8x1024 a)) (shrui x (broadcast S8x1024 b))

/-- One round of the counter hash on a pair of vectors. -/
def rndV (a b : BitVec 32) (p : IVec S8x1024 32 × IVec S8x1024 32) : IVec S8x1024 32 × IVec S8x1024 32 :=
  (addi p.1 p.2, xori (addi p.1 p.2) (rotV a b p.2))

/-- The key words added after a group of rounds. -/
def injV (a b n : BitVec 32) (p : IVec S8x1024 32 × IVec S8x1024 32) : IVec S8x1024 32 × IVec S8x1024 32 :=
  (addi p.1 (broadcast S8x1024 a), addi (addi p.2 (broadcast S8x1024 b)) (broadcast S8x1024 n))

/-- The last three rounds of an even group. -/
def evenV (p : IVec S8x1024 32 × IVec S8x1024 32) : IVec S8x1024 32 × IVec S8x1024 32 :=
  rndV 6#32 26#32 (rndV 26#32 6#32 (rndV 15#32 17#32 p))

/-- An odd group's four rounds. -/
def oddV (p : IVec S8x1024 32 × IVec S8x1024 32) : IVec S8x1024 32 × IVec S8x1024 32 :=
  rndV 24#32 8#32 (rndV 16#32 16#32 (rndV 29#32 3#32 (rndV 17#32 15#32 p)))

/-- The whole hash of a vector of counters (the first round on a zero left word is the counter itself). -/
def hashV (c : IVec S8x1024 32) : IVec S8x1024 32 × IVec S8x1024 32 :=
  injV 466689008#32 0#32 5#32 (evenV (rndV 13#32 19#32
    (injV 42#32 466689008#32 4#32 (oddV
      (injV 0#32 42#32 3#32 (evenV (rndV 13#32 19#32
        (injV 466689008#32 0#32 2#32 (oddV
          (injV 42#32 466689008#32 1#32 (evenV (c, xori c (rotV 13#32 19#32 c)))))))))))))

/-- The hash's words as floats in [1, 2). -/
def unitV (c : IVec S8x1024 32) : FVec F S8x1024 .f32 :=
  bitcastToFloat .f32 (ori (shrui (xori (hashV c).1 (hashV c).2) (broadcast S8x1024 9#32)) (broadcast S8x1024 1065353216#32))

/-- The Gumbel variates of a vector of counters. -/
def gumV (c : IVec S8x1024 32) : FVec F S8x1024 .f32 :=
  subf (broadcast S8x1024 (Scalar.ofBits .f32 0x00000000#32)) (log (subf (broadcast S8x1024 (Scalar.ofBits .f32 0x00000000#32))
    (log (addf (subf (unitV c) (broadcast S8x1024 (Scalar.ofBits .f32 0x3F800000#32)))
      (broadcast S8x1024 (Scalar.ofBits .f32 0x00800000#32))))))

/-- A column of the sixteen-column row cuts out. -/
theorem slices16 {n : ℕ} (h : n < 16) : S1x16.Slices ![0, n] S1x1 :=
  ⟨rfl, fun a => match a with
    | ⟨0, _⟩ => Nat.le_refl 1
    | ⟨1, _⟩ => (by omega : n + 1 ≤ 16)⟩

/-- One entry of a table row, at every place of the block. -/
def cellV (n : ℕ) (h : n < 16) (lp : Vec F S1x16 .f32) : FVec F S8x1024 .f32 :=
  broadcastTo S8x1024 (shapeCast S1x1 (extractStridedSlice S1x1 ![0, n] lp (slices16 h)) shapeCasts_S1x1_S1x1) broadcasts_S1x1_S8x1024

/-- The table row's four entries for the value `v`, each on the sublanes of its category. -/
def rowV (v : ℕ) (h : v < 4) (lp : Vec F S1x16 .f32) : FVec F S8x1024 .f32 :=
  select k0_pay29 (cellV (4 * v) (by omega) lp) (select k0_pay30 (cellV (4 * v + 1) (by omega) lp)
    (select k0_pay31 (cellV (4 * v + 2) (by omega) lp) (cellV (4 * v + 3) (by omega) lp)))

/-- The counters of row `r`'s column block `k`. -/
def ctrV (i : grid0.Coords) (r k : ℕ) : IVec S8x1024 32 :=
  addi k0_pay25 (broadcast S8x1024 (Scalar.addi
    (Scalar.addi (Scalar.muli (Scalar.addi (Scalar.muli (BitVec.ofNat 32 (i 0).val) 16#32) (BitVec.ofNat 32 r)) 32768#32) 42#32)
    (BitVec.ofNat 32 (4096 * k))))

/-- A block of 1024 columns cuts out of a row. -/
theorem slices8192 {n : ℕ} (h : n < 8) : S1x8192.Slices ![0, 1024 * n] S1x1024 :=
  ⟨rfl, fun a => match a with
    | ⟨0, _⟩ => Nat.le_refl 1
    | ⟨1, _⟩ => (by omega : 1024 * n + 1024 ≤ 8192)⟩

/-- The categories of block `n` of a row, on every sublane. -/
def catV (n : ℕ) (h : n < 8) (xv : IVec S1x8192 32) : IVec S8x1024 32 :=
  broadcastTo S8x1024 (shapeCast S1x1024 (extractStridedSlice S1x1024 ![0, 1024 * n] xv (slices8192 h)) shapeCasts_S1x1024_S1x1024)
    broadcasts_S1x1024_S8x1024

/-- The table entries the categories select. -/
def pickV (v8 : IVec S8x1024 32) (lp : Vec F S1x16 .f32) : FVec F S8x1024 .f32 :=
  select (cmpi .eq v8 (broadcast S8x1024 0#32)) (rowV 0 (by decide) lp) (select (cmpi .eq v8 (broadcast S8x1024 1#32)) (rowV 1 (by decide) lp)
    (select (cmpi .eq v8 (broadcast S8x1024 2#32)) (rowV 2 (by decide) lp) (rowV 3 (by decide) lp)))

/-- The scores of row `r`'s column block `k`: low half on sublanes 0 to 3, high half on 4 to 7. -/
def scoreV (i : grid0.Coords) (r k : ℕ) (hk : k < 4) (lp : Vec F S1x16 .f32) (xv : IVec S1x8192 32) : FVec F S8x1024 .f32 :=
  addf (gumV (ctrV i r k)) (pickV (select k0_pay28 (catV k (by omega) xv) (catV (4 + k) (by omega) xv)) lp)

/-- Sublanes moved up by one, cyclically. -/
def up1 {α : Type} (s : S8x1024.Idx → α) : S8x1024.Idx → α :=
  concatenate S8x1024 0 [⟨S7x1024, extractStridedSlice S7x1024 ![1, 0] s slices_S8x1024_o1_0_S7x1024⟩,
    ⟨S1x1024, extractStridedSlice S1x1024 ![0, 0] s slices_S8x1024_o0_0_S1x1024⟩] concatenates_S7x1024_S1x1024_S8x1024_d0

/-- Sublanes moved up by two, cyclically. -/
def up2 {α : Type} (s : S8x1024.Idx → α) : S8x1024.Idx → α :=
  concatenate S8x1024 0 [⟨S6x1024, extractStridedSlice S6x1024 ![2, 0] s slices_S8x1024_o2_0_S6x1024⟩,
    ⟨S2x1024, extractStridedSlice S2x1024 ![0, 0] s slices_S8x1024_o0_0_S2x1024⟩] concatenates_S6x1024_S2x1024_S8x1024_d0

/-- Where the neighbour's score is greater. -/
def gt1 (s : FVec F S8x1024 .f32) : IVec S8x1024 1 := cmpf .ogt (up1 s) s

/-- The better of a score and its neighbour's. -/
def best1 (s : FVec F S8x1024 .f32) : FVec F S8x1024 .f32 := select (gt1 s) (up1 s) s

/-- The category of that better score. -/
def arg1V (s : FVec F S8x1024 .f32) : IVec S8x1024 32 := select (gt1 s) k0_pay27 k0_pay26

/-- The winner of the two rounds of the tournament. -/
def winV (s : FVec F S8x1024 .f32) : IVec S8x1024 32 :=
  select (cmpf .ogt (up2 (best1 s)) (best1 s)) (up2 (arg1V s)) (arg1V s)

/-- The winners of the low half, as the row they are stored into. -/
def loV (w : IVec S8x1024 32) : IVec S1x1x1024 32 :=
  shapeCast S1x1x1024 (extractStridedSlice S1x1024 ![0, 0] w slices_S8x1024_o0_0_S1x1024) shapeCasts_S1x1024_S1x1x1024

/-- The winners of the high half, as the row they are stored into. -/
def hiV (w : IVec S8x1024 32) : IVec S1x1x1024 32 :=
  shapeCast S1x1x1024 (extractStridedSlice S1x1024 ![4, 0] w slices_S8x1024_o4_0_S1x1024) shapeCasts_S1x1024_S1x1x1024

/-- A stored row block lies in the output block. -/
theorem inbOut (r : Fin 16) {n : ℕ} (h : n < 8) : ∀ a, (![0, r.val, 1024 * n] : Fin 3 → Nat) a + S1x1x1024.size a ≤ S1x16x8192.size a :=
  fun a => match a with
    | ⟨0, _⟩ => Nat.le_refl 1
    | ⟨1, _⟩ => (by omega : r.val + 1 ≤ 16)
    | ⟨2, _⟩ => (by omega : 1024 * n + 1024 ≤ 8192)

/-- A loaded row lies in the input block. -/
theorem inbIn (r : Fin 16) : ∀ a, (![0, r.val, 0] : Fin 3 → Nat) a + S1x1x8192.size a ≤ S1x16x8192.size a :=
  fun a => match a with
    | ⟨0, _⟩ => Nat.le_refl 1
    | ⟨1, _⟩ => (by omega : r.val + 1 ≤ 16)
    | ⟨2, _⟩ => Nat.le_refl 8192

/-- The table row that row `r` of the point loads. -/
def tabRow (i : grid0.Coords) (arg8 : Memref sig .tc .vmem S128x16 .f32) (f8 : arg8.view.ty.shape.Idx → Elt F arg8.view.ty.elt) (r : Fin 16) :
    Vec F S1x16 .f32 :=
  View.readAt (Elt F) arg8.view (Rect.unit (s := S128x16) (k0_off1 i (BitVec.ofNat 32 r.val)) S1x16.size (k0_off1_inb i r)).toLoadRect f8

/-- The row of categories that row `r` of the point loads. -/
def catRow (arg1 : Memref sig .tc .vmem S1x16x8192 .i32) (f1 : arg1.view.ty.shape.Idx → Elt F arg1.view.ty.elt) (r : Fin 16) : IVec S1x8192 32 :=
  shapeCast S1x8192 (View.readAt (Elt F) arg1.view (Rect.unit (s := S1x16x8192) ![0, r.val, 0] S1x1x8192.size (inbIn r)).toLoadRect f1)
    shapeCasts_S1x1x8192_S1x8192

/-- The winners of row `r`'s column block `k`. -/
def chunk (i : grid0.Coords) (lp : Fin 16 → Vec F S1x16 .f32) (xr : Fin 16 → IVec S1x8192 32) (r : Fin 16) (k : Fin 4) : IVec S8x1024 32 :=
  winV (scoreV i r.val k.val k.isLt (lp r) (xr r))

/-- The two stores of row `r`'s column block `k`. -/
def pieces2 (ch : Fin 16 → Fin 4 → IVec S8x1024 32) (r : Fin 16) (k : Fin 4) : List (View.Piece (Elt F) S1x16x8192 .i32) :=
  [⟨Rect.unit (s := S1x16x8192) ![0, r.val, 1024 * (4 + k.val)] S1x1x1024.size (inbOut r (by omega)), hiV (ch r k)⟩,
   ⟨Rect.unit (s := S1x16x8192) ![0, r.val, 1024 * k.val] S1x1x1024.size (inbOut r (by omega)), loV (ch r k)⟩]

/-- The stores of a row, the last one first. -/
def piecesRow (ch : Fin 16 → Fin 4 → IVec S8x1024 32) (r : Fin 16) : List (View.Piece (Elt F) S1x16x8192 .i32) :=
  pieces2 ch r 3 ++ pieces2 ch r 2 ++ pieces2 ch r 1 ++ pieces2 ch r 0

/-- The stores of a grid point, the last one first. -/
def pieces (ch : Fin 16 → Fin 4 → IVec S8x1024 32) : List (View.Piece (Elt F) S1x16x8192 .i32) :=
  piecesRow ch 15 ++ piecesRow ch 14 ++ piecesRow ch 13 ++ piecesRow ch 12 ++ piecesRow ch 11 ++ piecesRow ch 10 ++ piecesRow ch 9 ++ piecesRow ch 8
    ++ piecesRow ch 7 ++ piecesRow ch 6 ++ piecesRow ch 5 ++ piecesRow ch 4 ++ piecesRow ch 3 ++ piecesRow ch 2 ++ piecesRow ch 1 ++ piecesRow ch 0

end Cert.Proof

end
-- ==== Proof.Hash.lean ====
/- The counter hash on single words, and both programs' vectors of hashed words read at a place. -/
module

public import proofs.«01_k».proof.Proof.Chunk
public import proofs.«01_k».proof.Proof.Gen.ReferenceIdeal.Run
public import Idealize.ShloMosaic.Lib.Pointwise

@[expose] public section

noncomputable section

namespace Cert.Proof

open Idealize.ShloMosaic Idealize.ShloMosaic.TcCoe Idealize.SL.Sem

/-- A word rotated left by `a` bits, `b` being `32 - a`. -/
def rot (a b x : BitVec 32) : BitVec 32 := (x <<< a) ||| (x >>> b)

/-- One round of the hash. -/
def rnd (a b : BitVec 32) (p : BitVec 32 × BitVec 32) : BitVec 32 × BitVec 32 := (p.1 + p.2, (p.1 + p.2) ^^^ rot a b p.2)

/-- The key words added after a group of rounds. -/
def inj (a b n : BitVec 32) (p : BitVec 32 × BitVec 32) : BitVec 32 × BitVec 32 := (p.1 + a, p.2 + b + n)

/-- The last three rounds of an even group. -/
def even3 (p : BitVec 32 × BitVec 32) : BitVec 32 × BitVec 32 := rnd 6#32 26#32 (rnd 26#32 6#32 (rnd 15#32 17#32 p))

/-- The four rounds of an odd group. -/
def odd4 (p : BitVec 32 × BitVec 32) : BitVec 32 × BitVec 32 :=
  rnd 24#32 8#32 (rnd 16#32 16#32 (rnd 29#32 3#32 (rnd 17#32 15#32 p)))

/-- The hash from the state after its first round. -/
def hash (p : BitVec 32 × BitVec 32) : BitVec 32 × BitVec 32 :=
  inj 466689008#32 0#32 5#32 (even3 (rnd 13#32 19#32
    (inj 42#32 466689008#32 4#32 (odd4
      (inj 0#32 42#32 3#32 (even3 (rnd 13#32 19#32
        (inj 466689008#32 0#32 2#32 (odd4 (inj 42#32 466689008#32 1#32 (even3 p)))))))))))

/-- The random word of a counter. -/
def word (c : BitVec 32) : BitVec 32 := (hash (c, c ^^^ rot 13#32 19#32 c)).1 ^^^ (hash (c, c ^^^ rot 13#32 19#32 c)).2

section Generic

variable {s : Shape} (shl shr : IVec s 32 → IVec s 32 → IVec s 32) (con : BitVec 32 → IVec s 32)

/-- One round on a pair of vectors, with the shifts and the constants of a program. -/
def rndG (a b : BitVec 32) (p : IVec s 32 × IVec s 32) : IVec s 32 × IVec s 32 :=
  (addi p.1 p.2, xori (addi p.1 p.2) (ori (shl p.2 (con a)) (shr p.2 (con b))))

/-- The key words' addition on a pair of vectors. -/
def injG (a b n : BitVec 32) (p : IVec s 32 × IVec s 32) : IVec s 32 × IVec s 32 :=
  (addi p.1 (con a), addi (addi p.2 (con b)) (con n))

/-- The last three rounds of an even group on a pair of vectors. -/
def even3G (p : IVec s 32 × IVec s 32) : IVec s 32 × IVec s 32 :=
  rndG shl shr con 6#32 26#32 (rndG shl shr con 26#32 6#32 (rndG shl shr con 15#32 17#32 p))

/-- The four rounds of an odd group on a pair of vectors. -/
def odd4G (p : IVec s 32 × IVec s 32) : IVec s 32 × IVec s 32 :=
  rndG shl shr con 24#32 8#32 (rndG shl shr con 16#32 16#32 (rndG shl shr con 29#32 3#32 (rndG shl shr con 17#32 15#32 p)))

/-- The hash on a pair of vectors. -/
def hashG (p : IVec s 32 × IVec s 32) : IVec s 32 × IVec s 32 :=
  injG con 466689008#32 0#32 5#32 (even3G shl shr con (rndG shl shr con 13#32 19#32
    (injG con 42#32 466689008#32 4#32 (odd4G shl shr con
      (injG con 0#32 42#32 3#32 (even3G shl shr con (rndG shl shr con 13#32 19#32
        (injG con 466689008#32 0#32 2#32 (odd4G shl shr con (injG con 42#32 466689008#32 1#32 (even3G shl shr con p)))))))))))

/-- A pair of vectors at a place. -/
def at2 (p : IVec s 32 × IVec s 32) (j : s.Idx) : BitVec 32 × BitVec 32 := (p.1 j, p.2 j)

variable {shl shr con} (hl : ∀ (a : BitVec 32), a.toNat < 32 → ∀ x j, shl x (con a) j = x j <<< a)
  (hr : ∀ (a : BitVec 32), a.toNat < 32 → ∀ x j, shr x (con a) j = x j >>> a) (hc : ∀ a j, con a j = a)

include hl hr in
/-- A round on vectors is the round on words at each place. -/
theorem at2_rndG {a b : BitVec 32} (ha : a.toNat < 32) (hb : b.toNat < 32) (p : IVec s 32 × IVec s 32) (j : s.Idx) :
    at2 (rndG shl shr con a b p) j = rnd a b (at2 p j) := by
  have h1 := hl a ha p.2 j
  have h2 := hr b hb p.2 j
  show (IntOp.addi (p.1 j) (p.2 j), IntOp.xori (IntOp.addi (p.1 j) (p.2 j)) (IntOp.ori (shl p.2 (con a) j) (shr p.2 (con b) j))) = _
  rw [h1, h2]; rfl

include hc in
/-- The key words' addition at each place. -/
theorem at2_injG (a b n : BitVec 32) (p : IVec s 32 × IVec s 32) (j : s.Idx) : at2 (injG con a b n p) j = inj a b n (at2 p j) := by
  show (IntOp.addi (p.1 j) (con a j), IntOp.addi (IntOp.addi (p.2 j) (con b j)) (con n j)) = _
  rw [hc, hc, hc]; rfl

include hl hr hc in
/-- The hash on vectors is the hash on words at each place. -/
theorem at2_hashG (p : IVec s 32 × IVec s 32) (j : s.Idx) : at2 (hashG shl shr con p) j = hash (at2 p j) := by
  have e3 : ∀ q : IVec s 32 × IVec s 32, at2 (even3G shl shr con q) j = even3 (at2 q j) := fun q => by
    unfold even3G even3
    rw [at2_rndG hl hr (by decide) (by decide), at2_rndG hl hr (by decide) (by decide), at2_rndG hl hr (by decide) (by decide)]
  have o4 : ∀ q : IVec s 32 × IVec s 32, at2 (odd4G shl shr con q) j = odd4 (at2 q j) := fun q => by
    unfold odd4G odd4
    rw [at2_rndG hl hr (by decide) (by decide), at2_rndG hl hr (by decide) (by decide), at2_rndG hl hr (by decide) (by decide),
      at2_rndG hl hr (by decide) (by decide)]
  have r1 : ∀ q : IVec s 32 × IVec s 32, at2 (rndG shl shr con 13#32 19#32 q) j = rnd 13#32 19#32 (at2 q j) := fun q =>
    at2_rndG hl hr (by decide) (by decide) q j
  unfold hashG hash
  simp only [at2_injG hc, e3, o4, r1]

end Generic

open Cert.KernelIdeal Cert.KernelIdeal.Gen in
/-- The kernel's vector of random words at a place. -/
theorem hashV_at (c : IVec S8x1024 32) (j : S8x1024.Idx) : xori (hashV c).1 (hashV c).2 j = word (c j) := by
  have h : at2 (hashV c) j = hash (at2 (c, xori c (rotV 13#32 19#32 c)) j) :=
    at2_hashG (shl := shli) (shr := shrui) (con := broadcast S8x1024) (fun a ha x j => if_pos ha) (fun a ha x j => if_pos ha) (fun _ _ => rfl) _ j
  have h0 : at2 (c, xori c (rotV 13#32 19#32 c)) j = (c j, c j ^^^ rot 13#32 19#32 (c j)) := rfl
  rw [h0] at h
  unfold word
  rw [← h]; rfl

section Reference

open Cert.ReferenceIdeal Cert.ReferenceIdeal.Gen Cert.ReferenceIdeal.Value Idealize.ShloMosaic.StableHlo

variable {F : FTy → Type} [FloatOps F]

/-- The reference's two vectors of words after the hash. -/
def hashR (V0 : Valuation τ sig (Elt F)) : IVec S128x8192x4 32 × IVec S128x8192x4 32 :=
  hashG Host.shli Host.shrui (fun a => broadcastInDim S128x8192x4 ![] bcast_S_S128x8192x4 (constantI S_ 32 a)) (res_main_v47 V0, res_main_v53 V0)

set_option maxRecDepth 65536 in
set_option maxHeartbeats 4000000 in
/-- The reference's last left word, as its run left it, is the hash's. -/
theorem hashR_fst (V0 : Valuation τ sig (Elt F)) :
    addi (res_main_v204 V0) (broadcastInDim S128x8192x4 ![] bcast_S_S128x8192x4 (constantI S_ 32 466689008#32)) = (hashR V0).1 := by
  sl_kernel_rfl

set_option maxRecDepth 65536 in
set_option maxHeartbeats 4000000 in
/-- The reference's last right word, as its run left it, is the hash's. -/
theorem hashR_snd (V0 : Valuation τ sig (Elt F)) :
    addi (addi (xori (res_main_v204 V0) (ori (Host.shli (res_main_v203 V0) (broadcastInDim S128x8192x4 ![] bcast_S_S128x8192x4 (constantI S_ 32 6#32)))
      (Host.shrui (res_main_v203 V0) (broadcastInDim S128x8192x4 ![] bcast_S_S128x8192x4 (constantI S_ 32 26#32)))))
      (broadcastInDim S128x8192x4 ![] bcast_S_S128x8192x4 (constantI S_ 32 0#32))) (broadcastInDim S128x8192x4 ![] bcast_S_S128x8192x4 (constantI S_ 32 5#32))
      = (hashR V0).2 := by
  sl_kernel_rfl

set_option maxRecDepth 16384 in
/-- The reference's vector of random words at a place. -/
theorem hashR_at (V0 : Valuation τ sig (Elt F)) (j : S128x8192x4.Idx) : xori (hashR V0).1 (hashR V0).2 j = word (res_main_v46 V0 j) := by
  have h : at2 (hashR V0) j = hash (at2 (res_main_v47 V0, res_main_v53 V0) j) :=
    at2_hashG (shl := Host.shli) (shr := Host.shrui) (con := fun a => broadcastInDim S128x8192x4 ![] bcast_S_S128x8192x4 (constantI S_ 32 a))
      (fun a ha x j => if_pos ha) (fun a ha x j => if_pos ha) (fun _ _ => rfl) _ j
  have h47 : res_main_v47 V0 j = res_main_v46 V0 j := by
    show (0#32 + 0#32) + (res_main_v46 V0 j : BitVec 32) = _
    exact BitVec.zero_add _
  have h0 : at2 (res_main_v47 V0, res_main_v53 V0) j = (fun w : BitVec 32 => (w, w ^^^ rot 13#32 19#32 w)) (res_main_v46 V0 j) := by
    show ((res_main_v47 V0 j, IntOp.xori (res_main_v47 V0 j) _) : BitVec 32 × BitVec 32) = _
    rw [h47]; rfl
  rw [h0] at h
  unfold word
  rw [← h]; rfl

end Reference

end Cert.Proof

end
-- ==== Proof.Cell.lean ====
/- One chunk of the kernel's body at a place: the tournament of four scores, each a Gumbel variate of its counter plus
   the table entry that the category selects. -/
module

public import proofs.«01_k».proof.Proof.Hash

@[expose] public section

noncomputable section

namespace Cert.Proof

open Cert.KernelIdeal Cert.KernelIdeal.Gen Idealize.ShloMosaic Idealize.ShloMosaic.TcCoe Idealize.SL.Sem

set_option maxRecDepth 16384

/-- The number in [1, 2) that a random word's upper bits give. -/
def unit (w : BitVec 32) : EReal := Ideal.ofBits .f32 ((w >>> 9#32) ||| 1065353216#32)

/-- The uniform variate of a random word. -/
def uni (w : BitVec 32) : EReal := unit w - 1 + Ideal.ofBits .f32 8388608#32

/-- The Gumbel variate of a random word. -/
def gum (w : BitVec 32) : EReal := -(Ideal.log (-(Ideal.log (uni w))))

/-- The counter of row `b`, column `n` and category `c`. -/
def ctr (b n c : ℕ) : BitVec 32 := BitVec.ofNat 32 (32768 * b + 4 * n + c + 42)

/-- The entry of `f` that a category's word selects, the fourth for every word but 0, 1 and 2. -/
def pick (x : BitVec 32) (f : Fin 4 → EReal) : EReal := if x = 0#32 then f 0 else if x = 1#32 then f 1 else if x = 2#32 then f 2 else f 3

/-- The index of the largest of four scores, by the two rounds of a tournament. -/
def tourn (s : Fin 4 → EReal) : BitVec 32 :=
  if (if s 0 < s 1 then s 1 else s 0) < (if s 2 < s 3 then s 3 else s 2) then (if s 2 < s 3 then 3#32 else 2#32)
  else (if s 0 < s 1 then 1#32 else 0#32)

/-- The Gumbel variates of a vector of random words. -/
def gumW (w : IVec S8x1024 32) : FVec Ideal S8x1024 .f32 :=
  subf (broadcast S8x1024 (Scalar.ofBits .f32 0x00000000#32)) (log (subf (broadcast S8x1024 (Scalar.ofBits .f32 0x00000000#32))
    (log (addf (subf (bitcastToFloat .f32 (ori (shrui w (broadcast S8x1024 9#32)) (broadcast S8x1024 1065353216#32)))
      (broadcast S8x1024 (Scalar.ofBits .f32 0x3F800000#32))) (broadcast S8x1024 (Scalar.ofBits .f32 0x00800000#32))))))

/-- Those variates at a place. -/
theorem gumW_at (w : IVec S8x1024 32) (j : S8x1024.Idx) : gumW w j = gum (w j) := by
  have h : IntOp.shrui ArithUnit.vector (w j) 9#32 = w j >>> 9#32 := if_pos (by decide)
  pointwise [gumW]
  rw [h]
  simp only [gum, uni, unit, sub_eq_add_neg, zero_add]
  rfl

/-- The kernel's Gumbel variates at a place. -/
theorem gumV_at (c : IVec S8x1024 32) (j : S8x1024.Idx) : gumV (F := Ideal) c j = gum (word (c j)) := by
  have h : gumV (F := Ideal) c = gumW (xori (hashV c).1 (hashV c).2) := rfl
  rw [h, gumW_at, hashV_at]

/-- Sublanes moved up by one, at a sublane that has one above it. -/
theorem up1_at {α : Type} (s : S8x1024.Idx → α) (a : Fin 8) (l : Fin 1024) (h : a.val + 1 < 8) : up1 s (ix2 a l) = s (ix2 ⟨a + 1, h⟩ l) := by
  pointwise [up1]
  rw [dif_pos (by omega)]
  congr 2
  exact Fin.ext (Nat.add_comm 1 _)

/-- Sublanes moved up by two, at a sublane that has two above it. -/
theorem up2_at {α : Type} (s : S8x1024.Idx → α) (a : Fin 8) (l : Fin 1024) (h : a.val + 2 < 8) : up2 s (ix2 a l) = s (ix2 ⟨a + 2, h⟩ l) := by
  pointwise [up2]
  rw [dif_pos (by omega)]
  congr 2
  exact Fin.ext (Nat.add_comm 2 _)

/-- The sublane that holds category `c` of half `h`. -/
def lane (h : Fin 2) (c : Fin 4) : Fin 8 := ⟨4 * h.val + c.val, by omega⟩

/-- The winner at the first sublane of a half is the tournament of the half's four scores. -/
theorem winV_at (s : FVec Ideal S8x1024 .f32) (h : Fin 2) (l : Fin 1024) :
    winV (F := Ideal) s (ix2 (lane h 0) l) = tourn fun c => s (ix2 (lane h c) l) := by
  have e1 : ∀ {α : Type} (f : S8x1024.Idx → α), up1 f (ix2 (lane h 0) l) = f (ix2 (lane h 1) l) := fun f => up1_at f _ l (by simp [lane]; omega)
  have e3 : ∀ {α : Type} (f : S8x1024.Idx → α), up1 f (ix2 (lane h 2) l) = f (ix2 (lane h 3) l) := fun f => up1_at f _ l (by simp [lane]; omega)
  have e2 : ∀ {α : Type} (f : S8x1024.Idx → α), up2 f (ix2 (lane h 0) l) = f (ix2 (lane h 2) l) := fun f => up2_at f _ l (by simp [lane]; omega)
  have a0 : k0_pay26 (ix2 (lane h 0) l) = 0#32 := by pointwise [k0_pay26]; clear * - h; revert h; decide
  have a1 : k0_pay27 (ix2 (lane h 0) l) = 1#32 := by pointwise [k0_pay27]; clear * - h; revert h; decide
  have a2 : k0_pay26 (ix2 (lane h 2) l) = 2#32 := by pointwise [k0_pay26]; clear * - h; revert h; decide
  have a3 : k0_pay27 (ix2 (lane h 2) l) = 3#32 := by pointwise [k0_pay27]; clear * - h; revert h; decide
  unfold winV
  pointwise []
  rw [e2, e2]
  pointwise [best1, arg1V, gt1]
  rw [e1, e3, a0, a1, a2, a3]
  rfl

/-- The table row's entries on the sublane of category `c`. -/
theorem rowV_at (v : ℕ) (hv : v < 4) (lp : Vec Ideal S1x16 .f32) (h : Fin 2) (c : Fin 4) (l : Fin 1024) :
    rowV (F := Ideal) v hv lp (ix2 (lane h c) l) = lp (ix2 0 ⟨4 * v + c.val, by omega⟩) := by
  pointwise [rowV, cellV, k0_pay29, k0_pay30, k0_pay31, k0_pay26]
  fin_cases h <;> fin_cases c <;> rfl

/-- The counter on a sublane. -/
theorem ctrV_at (i : grid0.Coords) (r : Fin 16) (k : Fin 4) (h : Fin 2) (c : Fin 4) (l : Fin 1024) :
    ctrV i r.val k.val (ix2 (lane h c) l) = ctr (16 * (i 0).val + r.val) (1024 * (4 * h.val + k.val) + l.val) c.val := by
  have hs : IntOp.andi (BitVec.ofNat 32 (lane h c).val) 3#32 = BitVec.ofNat 32 c.val := by revert h c; decide
  have hh : IntOp.muli (IntOp.shrsi ArithUnit.vector (BitVec.ofNat 32 (lane h c).val) 2#32) 16384#32 = BitVec.ofNat 32 (16384 * h.val) := by
    revert h c; decide
  pointwise [ctrV, k0_pay25]
  rw [hs, hh]
  unfold ctr Scalar.addi Scalar.muli IntOp.addi IntOp.muli
  simp only [← BitVec.ofNat_add, ← BitVec.ofNat_mul]
  congr 1
  ring

/-- The category on a sublane of half `h`. -/
theorem catV_at (k : Fin 4) (xv : IVec S1x8192 32) (h : Fin 2) (c : Fin 4) (l : Fin 1024) :
    select k0_pay28 (catV k.val (by omega) xv) (catV (4 + k.val) (by omega) xv) (ix2 (lane h c) l)
      = xv (ix2 0 ⟨1024 * (4 * h.val + k.val) + l.val, by omega⟩) := by
  pointwise [catV, k0_pay28]
  fin_cases h <;> fin_cases c <;> simp [lane, Scalar.select, IntOp.cmpi]

/-- A selection on the equality of two words. -/
theorem select_eq {α : Type} (x y : BitVec 32) (a b : α) : Scalar.select (IntOp.cmpi .eq x y) a b = if x = y then a else b := by
  unfold Scalar.select IntOp.cmpi
  by_cases h : x = y
  · simp [h]
  · have h' : (x == y) = false := by simpa using h
    simp [h, h']

/-- The selected entry on the sublane of category `c`. -/
theorem pickV_at (v8 : IVec S8x1024 32) (lp : Vec Ideal S1x16 .f32) (h : Fin 2) (c : Fin 4) (l : Fin 1024) :
    pickV (F := Ideal) v8 lp (ix2 (lane h c) l) = pick (v8 (ix2 (lane h c) l)) fun v => lp (ix2 0 ⟨4 * v.val + c.val, by omega⟩) := by
  pointwise [pickV]
  rw [rowV_at, rowV_at, rowV_at, rowV_at]
  simp only [select_eq]
  rfl

/-- The score on the sublane of category `c`. -/
theorem scoreV_at (i : grid0.Coords) (r : Fin 16) (k : Fin 4) (lp : Vec Ideal S1x16 .f32) (xv : IVec S1x8192 32) (h : Fin 2) (c : Fin 4) (l : Fin 1024) :
    scoreV (F := Ideal) i r.val k.val k.isLt lp xv (ix2 (lane h c) l)
      = gum (word (ctr (16 * (i 0).val + r.val) (1024 * (4 * h.val + k.val) + l.val) c.val))
        + pick (xv (ix2 0 ⟨1024 * (4 * h.val + k.val) + l.val, by omega⟩)) fun v => lp (ix2 0 ⟨4 * v.val + c.val, by omega⟩) := by
  unfold scoreV
  rw [addf_apply, gumV_at, ctrV_at, pickV_at, catV_at]
  rfl

/-- The winner of a place of the row: the tournament of its four scores. -/
theorem chunk_at (i : grid0.Coords) (lp : Fin 16 → Vec Ideal S1x16 .f32) (xr : Fin 16 → IVec S1x8192 32) (r : Fin 16) (k : Fin 4) (h : Fin 2) (l : Fin 1024) :
    chunk (F := Ideal) i lp xr r k (ix2 (lane h 0) l) = tourn fun c =>
      gum (word (ctr (16 * (i 0).val + r.val) (1024 * (4 * h.val + k.val) + l.val) c.val))
        + pick (xr r (ix2 0 ⟨1024 * (4 * h.val + k.val) + l.val, by omega⟩)) fun v => lp r (ix2 0 ⟨4 * v.val + c.val, by omega⟩) := by
  unfold chunk
  rw [winV_at]
  simp only [scoreV_at]

end Cert.Proof

end
-- ==== Proof.Table.lean ====
/- The table of log-probabilities that the first grid point fills: the printed operations once for all four values
   of the category, and the first point's stores as the generic lists. -/
module

public import proofs.«01_k».proof.Proof.Chunk

@[expose] public section

noncomputable section

namespace Cert.Proof

open Cert.KernelIdeal Cert.KernelIdeal.Gen Idealize.ShloMosaic Idealize.ShloMosaic.TcCoe Idealize.SL.Sem

variable {F : FTy → Type} [FloatOps F]

/-- Column `n` of a four-column array. -/
theorem slices4 {n : ℕ} (h : n < 4) : S128x4.Slices ![0, n] S128x1 :=
  ⟨rfl, fun a => match a with
    | ⟨0, _⟩ => Nat.le_refl 128
    | ⟨1, _⟩ => (by omega : n + 1 ≤ 4)⟩

/-- Column `n` of a four-column array, as a column. -/
def colV (n : ℕ) (h : n < 4) (x : FVec F S128x4 .f32) : FVec F S128x1 .f32 := extractStridedSlice S128x1 ![0, n] x (slices4 h)

/-- The activation of a hidden layer. -/
def geluV (h : FVec F S128x256 .f32) : FVec F S128x256 .f32 :=
  mulf h (mulf (broadcast S128x256 (Scalar.ofBits .f32 0x3F000000#32)) (addf (broadcast S128x256 (Scalar.ofBits .f32 0x3F800000#32))
    (tanh (mulf (broadcast S128x256 (Scalar.ofBits .f32 0x3F4C422A#32))
      (addf h (mulf (broadcast S128x256 (Scalar.ofBits .f32 0x3D372713#32)) (mulf h (mulf h h))))))))

/-- The logits from the hidden layer's two parts. -/
def logitV (ht : FVec F S128x256 .f32) (er : Vec F S1x256 .f32) (w : Vec F S256x4 .f32) (b : Vec F S1x4 .f32) : FVec F S128x4 .f32 :=
  addf (matmul dot_S128x256_S256x4_S128x4_1_0_0_1_n_n (some .fp32) (geluV (addf ht (broadcastTo S128x256 er broadcasts_S1x256_S128x256))) w
    (constant S128x4 .f32 0x00000000#32)) (broadcastTo S128x4 (shapeCast S1x4 b shapeCasts_S1x4_S1x4) broadcasts_S1x4_S128x4)

/-- The exponentials of the logits, the largest taken away. -/
def expV (l : FVec F S128x4 .f32) : FVec F S128x4 .f32 :=
  exp (subf l (broadcastTo S128x4 (maximumf (maximumf (colV 0 (by decide) l) (colV 1 (by decide) l)) (maximumf (colV 2 (by decide) l) (colV 3 (by decide) l)))
    broadcasts_S128x1_S128x4))

/-- The probabilities. -/
def probV (e : FVec F S128x4 .f32) : FVec F S128x4 .f32 :=
  divf e (broadcastTo S128x4 (addf (addf (addf (colV 0 (by decide) e) (colV 1 (by decide) e)) (colV 2 (by decide) e)) (colV 3 (by decide) e)) broadcasts_S128x1_S128x4)

/-- Where the second probability beats the first. -/
def hit1V (p : FVec F S128x4 .f32) : IVec S128x1 1 := cmpf .ogt (colV 1 (by decide) p) (colV 0 (by decide) p)

/-- The best of the first two. -/
def top1V (p : FVec F S128x4 .f32) : FVec F S128x1 .f32 := select (hit1V p) (colV 1 (by decide) p) (colV 0 (by decide) p)

/-- Where the third beats the best so far. -/
def hit2V (p : FVec F S128x4 .f32) : IVec S128x1 1 := cmpf .ogt (colV 2 (by decide) p) (top1V p)

/-- The best of the first three. -/
def top2V (p : FVec F S128x4 .f32) : FVec F S128x1 .f32 := select (hit2V p) (colV 2 (by decide) p) (top1V p)

/-- Where the fourth beats the best so far. -/
def hit3V (p : FVec F S128x4 .f32) : IVec S128x1 1 := cmpf .ogt (colV 3 (by decide) p) (top2V p)

/-- The greedy category. -/
def greedyV (p : FVec F S128x4 .f32) : IVec S128x1 32 :=
  select (hit3V p) (broadcast S128x1 3#32) (select (hit2V p) (broadcast S128x1 2#32) (select (hit1V p) (broadcast S128x1 1#32) (broadcast S128x1 0#32)))

/-- The table's columns from the probabilities: a mask at time zero, else their logarithms. -/
def maskV (t2 : IVec S128x1 32) (p : FVec F S128x4 .f32) : FVec F S128x4 .f32 :=
  shapeCast S128x4 (select (broadcastTo S128x4 (shapeCast S128x1 (cmpi .eq t2 (broadcast S128x1 0#32)) shapeCasts_S128x1_S128x1) broadcasts_S128x1_S128x4)
    (select (cmpi .eq (iota .tc S128x4 32 [1] iota_S128x4_d1_w32) (broadcastTo S128x4 (greedyV p) broadcasts_S128x1_S128x4))
      (broadcast S128x4 (Scalar.ofBits .f32 0x00000000#32)) (broadcast S128x4 (Scalar.ofBits .f32 0xF149F2CA#32)))
    (log (addf p (broadcast S128x4 (Scalar.ofBits .f32 0x1E3CE508#32))))) shapeCasts_S128x4_S128x4

/-- A row of the embedding lies in it. -/
theorem inbEmb (v : Fin 4) : ∀ a, (![v.val, 0] : Fin 2 → Nat) a + S1x256.size a ≤ S4x256.size a :=
  fun a => match a with
    | ⟨0, _⟩ => (by omega : v.val + 1 ≤ 4)
    | ⟨1, _⟩ => Nat.le_refl 256

/-- Four columns of the table lie in it. -/
theorem inbTab (v : Fin 4) : ∀ a, (![0, 4 * v.val] : Fin 2 → Nat) a + S128x4.size a ≤ S128x16.size a :=
  fun a => match a with
    | ⟨0, _⟩ => Nat.le_refl 128
    | ⟨1, _⟩ => (by omega : 4 * v.val + 4 ≤ 16)

/-- The table's four columns for the value `v`, from what the body loads. -/
def tabV (t2 : Vec F S128x1 .i32) (te : Vec F S100x256 .f32) (er : Fin 4 → Vec F S1x256 .f32) (w : Vec F S256x4 .f32) (b : Vec F S1x4 .f32) (v : Fin 4) :
    FVec F S128x4 .f32 :=
  maskV (k0_pay2 t2) (probV (expV (logitV (k0_pay3 t2 te) (er v) w b)))

/-- The store of the table's columns for the value `v`. -/
def tabPiece (T : Fin 4 → FVec F S128x4 .f32) (v : Fin 4) : View.Piece (Elt F) S128x16 .f32 :=
  ⟨Rect.unit (s := S128x16) ![0, 4 * v.val] S128x4.size (inbTab v), T v⟩

/-- The four stores of the table, the last one first. -/
def tabPieces (T : Fin 4 → FVec F S128x4 .f32) : List (View.Piece (Elt F) S128x16 .f32) := [tabPiece T 3, tabPiece T 2, tabPiece T 1, tabPiece T 0]

/-- The table's columns as the first point computes them from its blocks. -/
def tabOf (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole)
    (x1 : Vec F S128x1 .i32) (x2 : Vec F S4x256 .f32) (x3 : Vec F S100x256 .f32) (x4 : Vec F S256x4 .f32) (x5 : Vec F S1x4 .f32) : Fin 4 → FVec F S128x4 .f32 :=
  tabV (View.readAt (Elt F) arg2.view (Rect.unit (s := S128x1) ![0, 0] S128x1.size inb_S128x1_S128x1_0_0).toLoadRect (harg2.unread x1))
    (View.readAt (Elt F) arg4.view (Rect.unit (s := S100x256) ![0, 0] S100x256.size inb_S100x256_S100x256_0_0).toLoadRect (harg4.unread x3))
    (fun v => View.readAt (Elt F) arg3.view (Rect.unit (s := S4x256) ![v.val, 0] S1x256.size (inbEmb v)).toLoadRect (harg3.unread x2))
    (View.readAt (Elt F) arg5.view (Rect.unit (s := S256x4) ![0, 0] S256x4.size inb_S256x4_S256x4_0_0).toLoadRect (harg5.unread x4))
    (View.readAt (Elt F) arg6.view (Rect.unit (s := S1x4) ![0, 0] S1x4.size inb_S1x4_S1x4_0_0).toLoadRect (harg6.unread x5))

end Cert.Proof

end
-- ==== Proof.Lists.lean ====
/- The stores of a grid point, as the body's run found them, are the generic list. -/
module

public import proofs.«01_k».proof.Proof.Table

@[expose] public section

noncomputable section

namespace Cert.Proof

open Cert.KernelIdeal Cert.KernelIdeal.Gen Idealize.ShloMosaic Idealize.ShloMosaic.TcCoe Idealize.SL.Sem

variable {F : FTy → Type} [FloatOps F]

set_option maxRecDepth 65536 in
set_option maxHeartbeats 4000000 in
/-- At a point that carries the table, the stores are the generic list over the table's rows. -/
theorem list_B (c : Dev nD) (i : grid0.Coords) (arg1 : Memref sig .tc .vmem S1x16x8192 .i32) (harg1 : arg1.IsWhole) (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole) (arg7 : Memref sig .tc .vmem S1x16x8192 .i32) (harg7 : arg7.IsWhole) (arg8 : Memref sig .tc .vmem S128x16 .f32) (harg8 : arg8.IsWhole) (hc0 : ¬cond0_0 i)
    (x0 : Vec F S1x16x8192 .i32) (x1 : Vec F S128x1 .i32) (x2 : Vec F S4x256 .f32) (x3 : Vec F S100x256 .f32) (x4 : Vec F S256x4 .f32) (x5 : Vec F S1x4 .f32) (xs0 : Vec F S128x16 .f32) :
    (kernelRun0_B c i arg1 harg1 arg2 harg2 arg3 harg3 arg4 harg4 arg5 harg5 arg6 harg6 arg7 harg7 arg8 harg8 hc0 x0 x1 x2 x3 x4 x5 xs0).1
      = pieces (chunk i (tabRow i arg8 (harg8.unread xs0)) (catRow (F := F) arg1 (harg1.unread x0))) := by
  sl_kernel_rfl

set_option maxRecDepth 65536 in
set_option maxHeartbeats 4000000 in
/-- At a point that fills the table, the stores are the generic list over the table's rows. -/
theorem list_A (c : Dev nD) (i : grid0.Coords) (arg1 : Memref sig .tc .vmem S1x16x8192 .i32) (harg1 : arg1.IsWhole) (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole) (arg7 : Memref sig .tc .vmem S1x16x8192 .i32) (harg7 : arg7.IsWhole) (arg8 : Memref sig .tc .vmem S128x16 .f32) (harg8 : arg8.IsWhole) (hc0 : cond0_0 i)
    (x0 : Vec F S1x16x8192 .i32) (x1 : Vec F S128x1 .i32) (x2 : Vec F S4x256 .f32) (x3 : Vec F S100x256 .f32) (x4 : Vec F S256x4 .f32) (x5 : Vec F S1x4 .f32) :
    (kernelRun0_A c i arg1 harg1 arg2 harg2 arg3 harg3 arg4 harg4 arg5 harg5 arg6 harg6 arg7 harg7 arg8 harg8 hc0 x0 x1 x2 x3 x4 x5).1
      = pieces (chunk i (tabRow i arg8 (arg8.view.writes (Elt F) arg8.view.junk (tabPieces (tabOf arg2 harg2 arg3 harg3 arg4 harg4 arg5 harg5 arg6 harg6 x1 x2 x3 x4 x5)))) (catRow (F := F) arg1 (harg1.unread x0))) := by
  sl_kernel_rfl

set_option maxRecDepth 65536 in
set_option maxHeartbeats 4000000 in
/-- At a point that fills the table, the scratch's stores are the table's four column blocks. -/
theorem scratch_A (c : Dev nD) (i : grid0.Coords) (arg1 : Memref sig .tc .vmem S1x16x8192 .i32) (harg1 : arg1.IsWhole) (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole) (arg7 : Memref sig .tc .vmem S1x16x8192 .i32) (harg7 : arg7.IsWhole) (arg8 : Memref sig .tc .vmem S128x16 .f32) (harg8 : arg8.IsWhole) (hc0 : cond0_0 i)
    (x0 : Vec F S1x16x8192 .i32) (x1 : Vec F S128x1 .i32) (x2 : Vec F S4x256 .f32) (x3 : Vec F S100x256 .f32) (x4 : Vec F S256x4 .f32) (x5 : Vec F S1x4 .f32) :
    (kernelRun0_A c i arg1 harg1 arg2 harg2 arg3 harg3 arg4 harg4 arg5 harg5 arg6 harg6 arg7 harg7 arg8 harg8 hc0 x0 x1 x2 x3 x4 x5).2.1
      = tabPieces (tabOf arg2 harg2 arg3 harg3 arg4 harg4 arg5 harg5 arg6 harg6 x1 x2 x3 x4 x5) := by
  sl_kernel_rfl

end Cert.Proof

end
-- ==== Proof.Point.lean ====
/- What a grid point leaves in its output block and in the table, at a place. -/
module

public import proofs.«01_k».proof.Proof.Cell
public import proofs.«01_k».proof.Proof.Lists
public import Idealize.ShloMosaic.Lib.Pipeline.ValueKit

@[expose] public section

noncomputable section

namespace Cert.Proof

open Cert.KernelIdeal Cert.KernelIdeal.Gen Idealize.ShloMosaic Idealize.ShloMosaic.TcCoe Idealize.SL.Sem

set_option maxRecDepth 16384

/-- Column `n`'s place in the row: half `h`, block `k`, lane `l`. -/
def col (h : Fin 2) (k : Fin 4) (l : Fin 1024) : Fin 8192 := ⟨1024 * (4 * h.val + k.val) + l.val, by omega⟩

/-- The low half's stored row at a place. -/
theorem loV_at (w : IVec S8x1024 32) (a b : Fin 1) (l : Fin 1024) : loV w (ix3 a b l) = w (ix2 (lane 0 0) l) := by
  pointwise [loV]
  rfl

/-- The high half's stored row at a place. -/
theorem hiV_at (w : IVec S8x1024 32) (a b : Fin 1) (l : Fin 1024) : hiV w (ix3 a b l) = w (ix2 (lane 1 0) l) := by
  pointwise [hiV]
  rfl

/-- Every store of a grid point writes its part of one function of the output place. -/
theorem pieces_apply (ch : Fin 16 → Fin 4 → IVec S8x1024 32) (G : S1x16x8192.Idx → BitVec 32)
    (hG : ∀ r k h l, ch r k (ix2 (lane h 0) l) = G (ix3 0 r (col h k l))) :
    ∀ p ∈ (pieces (F := Ideal) ch), ∀ x : p.1.shape.Idx, p.2 x = G (p.1.emb x) := by
  have key : ∀ (r : Fin 16) (k : Fin 4), ∀ p ∈ (pieces2 (F := Ideal) ch r k), ∀ x : p.1.shape.Idx, p.2 x = G (p.1.emb x) := by
    intro r k p hp
    rcases List.mem_cons.mp hp with rfl | hp
    · intro (x : S1x1x1024.Idx)
      obtain ⟨a, b, l, rfl⟩ : ∃ (a b : Fin 1) (l : Fin 1024), x = ix3 a b l := ⟨x 0, x 1, x 2, eq_ix3 x⟩
      refine (hiV_at _ a b l).trans ((hG r k 1 l).trans (congrArg G ?_))
      funext t
      apply Fin.ext
      match t with
      | ⟨0, _⟩ => show 0 = 0 + 1 * a.val; omega
      | ⟨1, _⟩ => show r.val = r.val + 1 * b.val; omega
      | ⟨2, _⟩ => show 1024 * (4 * 1 + k.val) + l.val = 1024 * (4 + k.val) + 1 * l.val; omega
    · obtain rfl := List.mem_singleton.mp hp
      intro (x : S1x1x1024.Idx)
      obtain ⟨a, b, l, rfl⟩ : ∃ (a b : Fin 1) (l : Fin 1024), x = ix3 a b l := ⟨x 0, x 1, x 2, eq_ix3 x⟩
      refine (loV_at _ a b l).trans ((hG r k 0 l).trans (congrArg G ?_))
      funext t
      apply Fin.ext
      match t with
      | ⟨0, _⟩ => show 0 = 0 + 1 * a.val; omega
      | ⟨1, _⟩ => show r.val = r.val + 1 * b.val; omega
      | ⟨2, _⟩ => show 1024 * (4 * 0 + k.val) + l.val = 1024 * k.val + 1 * l.val; omega
  have row : ∀ r : Fin 16, ∀ p ∈ (piecesRow (F := Ideal) ch r), ∀ x : p.1.shape.Idx, p.2 x = G (p.1.emb x) := by
    intro r p hp
    simp only [piecesRow, List.mem_append] at hp
    rcases hp with ((hp | hp) | hp) | hp
    all_goals exact key _ _ p hp
  intro p hp
  simp only [pieces, List.mem_append, or_assoc] at hp
  rcases hp with hp | hp | hp | hp | hp | hp | hp | hp | hp | hp | hp | hp | hp | hp | hp | hp
  all_goals exact row _ p hp

/-- The row of the table that row `r` of the point loads, at a place. -/
theorem tabRow_at (i : grid0.Coords) (arg8 : Memref sig .tc .vmem S128x16 .f32) (f8 : arg8.view.ty.shape.Idx → Elt Ideal arg8.view.ty.elt) (r : Fin 16) (n : Fin 16)
    (hb : 16 * (i 0).val + r.val < 128) :
    tabRow (F := Ideal) i arg8 f8 r (ix2 0 n) = arg8.view.read (Elt Ideal) f8 (ix2 ⟨16 * (i 0).val + r.val, hb⟩ n) := by
  unfold tabRow
  rw [View.readAt_eq_ld]
  refine congrArg (arg8.view.read (Elt Ideal) f8) ?_
  funext t
  apply Fin.ext
  match t with
  | ⟨0, _⟩ =>
    show (k0_off1 i (BitVec.ofNat 32 r.val)) 0 + 1 * 0 = 16 * (i 0).val + r.val
    show (Scalar.addi (Scalar.muli (BitVec.ofNat 32 (i 0).val) 16#32) (BitVec.ofNat 32 r.val)).toNat + 1 * 0 = 16 * (i 0).val + r.val
    unfold Scalar.addi Scalar.muli IntOp.addi IntOp.muli
    simp only [← BitVec.ofNat_add, ← BitVec.ofNat_mul, BitVec.toNat_ofNat]
    omega
  | ⟨1, _⟩ => show 0 + 1 * n.val = n.val; omega

/-- A loaded row without its leading axis, at a place. -/
theorem dropRow_at (v : IVec S1x1x8192 32) (n : Fin 8192) : shapeCast S1x8192 v shapeCasts_S1x1x8192_S1x8192 (ix2 0 n) = v (ix3 0 0 n) := by
  pointwise []

/-- The row of categories that row `r` of the point loads, at a place. -/
theorem catRow_at (arg1 : Memref sig .tc .vmem S1x16x8192 .i32) (harg1 : arg1.IsWhole) (x0 : Vec Ideal S1x16x8192 .i32) (r : Fin 16) (n : Fin 8192) :
    catRow (F := Ideal) arg1 (harg1.unread x0) r (ix2 0 n) = x0 (ix3 0 r n) := by
  unfold catRow
  rw [dropRow_at, View.readAt_eq_ld, Memref.IsWhole.read_unread]
  refine congrArg x0 ?_
  funext t
  apply Fin.ext
  match t with
  | ⟨0, _⟩ => rfl
  | ⟨1, _⟩ => show r.val + 1 * 0 = r.val; omega
  | ⟨2, _⟩ => show 0 + 1 * n.val = n.val; omega

/-- The winner of one output place from a table and the categories. -/
def cell (S : Vec Ideal S128x16 .f32) (x : BitVec 32) (b : Fin 128) (n : Fin 8192) : BitVec 32 :=
  tourn fun c => gum (word (ctr b.val n.val c.val)) + pick x fun v => S (ix2 b ⟨4 * v.val + c.val, by omega⟩)

/-- The row of the batch that row `r` of point `i` is. -/
def bat (i : grid0.Coords) (r : Fin 16) : Fin 128 := ⟨16 * (i 0).val + r.val, by have : (i 0).val < 8 := (i 0).isLt; omega⟩

/-- The generic list of stores, read back at a place. -/
theorem read_pieces (i : grid0.Coords) (arg1 : Memref sig .tc .vmem S1x16x8192 .i32) (harg1 : arg1.IsWhole) (arg8 : Memref sig .tc .vmem S128x16 .f32)
    (x0 : Vec Ideal S1x16x8192 .i32) (f8 : arg8.view.ty.shape.Idx → Elt Ideal arg8.view.ty.elt) (S : Vec Ideal S128x16 .f32) (hS : arg8.view.read (Elt Ideal) f8 = S)
    (L : List (View.Piece (Elt Ideal) S1x16x8192 .i32)) (hL : L = pieces (chunk i (tabRow i arg8 f8) (catRow (F := Ideal) arg1 (harg1.unread x0))))
    (hc : ∀ y : S1x16x8192.Idx, ∃ pc ∈ L, y ∈ pc.1.set) (r : Fin 16) (n : Fin 8192) :
    VO0_6.read (Elt Ideal) (VO0_6.writes (Elt Ideal) VO0_6.junk L) (ix3 0 r n) = cell S (x0 (ix3 0 r n)) (bat i r) n := by
  subst hL
  refine (View.read_writes_apply_of_pieces VO0_6 VO0_6.junk (fun y : S1x16x8192.Idx => cell S (x0 (ix3 0 (y 1) (y 2))) (bat i (y 1)) (y 2)) _ (pieces_apply _ (fun y : S1x16x8192.Idx => cell S (x0 (ix3 0 (y 1) (y 2))) (bat i (y 1)) (y 2)) fun r k h l => ?_) (ix3 0 r n) (hc _)).trans ?_
  · rw [chunk_at]
    subst hS
    show _ = cell _ (x0 (ix3 0 r (col h k l))) (bat i r) (col h k l)
    unfold cell
    simp only [catRow_at, tabRow_at i arg8 f8 _ _ (bat i r).isLt]
    rfl
  · rfl

/-- What the first point leaves in its output block. -/
theorem outA_at (c : Dev nD) (i : grid0.Coords) (arg1 : Memref sig .tc .vmem S1x16x8192 .i32) (harg1 : arg1.IsWhole) (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole) (arg7 : Memref sig .tc .vmem S1x16x8192 .i32) (harg7 : arg7.IsWhole) (hc0 : cond0_0 i)
    (x0 : Vec Ideal S1x16x8192 .i32) (x1 : Vec Ideal S128x1 .i32) (x2 : Vec Ideal S4x256 .f32) (x3 : Vec Ideal S100x256 .f32) (x4 : Vec Ideal S256x4 .f32) (x5 : Vec Ideal S1x4 .f32) (S : Vec Ideal S128x16 .f32)
    (hS : sout0_A_0 (F := Ideal) c i arg1 harg1 arg2 harg2 arg3 harg3 arg4 harg4 arg5 harg5 arg6 harg6 arg7 harg7 scM0_0 (Memref.isWhole_whole _) hc0 x0 x1 x2 x3 x4 x5 = S) (r : Fin 16) (n : Fin 8192) :
    out0_A_6 (F := Ideal) c i arg1 harg1 arg2 harg2 arg3 harg3 arg4 harg4 arg5 harg5 arg6 harg6 arg7 harg7 scM0_0 (Memref.isWhole_whole _) hc0 x0 x1 x2 x3 x4 x5 (ix3 0 r n) = cell S (x0 (ix3 0 r n)) (bat i r) n := by
  unfold sout0_A_0 at hS
  rw [scratch_A] at hS
  unfold out0_A_6
  exact read_pieces i arg1 harg1 scM0_0 x0 _ S hS _ (list_A c i arg1 harg1 arg2 harg2 arg3 harg3 arg4 harg4 arg5 harg5 arg6 harg6 arg7 harg7 scM0_0 (Memref.isWhole_whole _) hc0 x0 x1 x2 x3 x4 x5) (cover0_A_6 c i arg1 harg1 arg2 harg2 arg3 harg3 arg4 harg4 arg5 harg5 arg6 harg6 arg7 harg7 scM0_0 (Memref.isWhole_whole _) hc0 x0 x1 x2 x3 x4 x5) r n

/-- What a later point leaves in its output block. -/
theorem outB_at (c : Dev nD) (i : grid0.Coords) (arg1 : Memref sig .tc .vmem S1x16x8192 .i32) (harg1 : arg1.IsWhole) (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole) (arg7 : Memref sig .tc .vmem S1x16x8192 .i32) (harg7 : arg7.IsWhole) (arg8 : Memref sig .tc .vmem S128x16 .f32) (harg8 : arg8.IsWhole) (hc0 : ¬cond0_0 i)
    (x0 : Vec Ideal S1x16x8192 .i32) (x1 : Vec Ideal S128x1 .i32) (x2 : Vec Ideal S4x256 .f32) (x3 : Vec Ideal S100x256 .f32) (x4 : Vec Ideal S256x4 .f32) (x5 : Vec Ideal S1x4 .f32) (xs0 : Vec Ideal S128x16 .f32) (r : Fin 16) (n : Fin 8192) :
    out0_B_6 (F := Ideal) c i arg1 harg1 arg2 harg2 arg3 harg3 arg4 harg4 arg5 harg5 arg6 harg6 arg7 harg7 arg8 harg8 hc0 x0 x1 x2 x3 x4 x5 xs0 (ix3 0 r n) = cell xs0 (x0 (ix3 0 r n)) (bat i r) n := by
  unfold out0_B_6
  exact read_pieces i arg1 harg1 arg8 x0 _ xs0 (Memref.IsWhole.read_unread _ _) _ (list_B c i arg1 harg1 arg2 harg2 arg3 harg3 arg4 harg4 arg5 harg5 arg6 harg6 arg7 harg7 arg8 harg8 hc0 x0 x1 x2 x3 x4 x5 xs0) (cover0_B_6 c i arg1 harg1 arg2 harg2 arg3 harg3 arg4 harg4 arg5 harg5 arg6 harg6 arg7 harg7 arg8 harg8 hc0 x0 x1 x2 x3 x4 x5 xs0) r n

variable (m : (ℓ : Loc nD τ sig) → Buf (Elt Ideal) ℓ)

/-- The table after the first point. -/
def table (c : Dev nD) : Vec Ideal S128x16 .f32 := (outsAt0 m c 0 (by decide)).2

/-- Every point leaves the table as the first point filled it. -/
theorem table_keep (c : Dev nD) : ∀ (n : ℕ) (hn : n < cfg0.N), (outsAt0 m c n hn).2 = table m c
  | 0, _ => rfl
  | n + 1, hn => by
    have hN := lt_of_lt_of_eq hn (show cfg0.N = 8 from N_0)
    have h0 : ¬(n + 1) % 8 = 0 := by omega
    have e := congrArg Prod.snd (outsAt0_B m c ⟨n + 1, hn⟩ h0)
    dsimp only [sout0_B_0, Nat.add_sub_cancel] at e
    exact e.trans (table_keep c n _)

/-- What a point leaves in its output block. -/

theorem out_at (c : Dev nD) (t : Fin cfg0.N) (r : Fin 16) (n : Fin 8192) :
    (outsAt0 m c t.val t.isLt).1 (ix3 0 r n) = cell (table m c) (iblk m c 0 t (ix3 0 r n)) (bat (grid0.coords t) r) n := by
  by_cases h0 : t.val % 8 = 0
  · have e := outsAt0_A m c t h0
    have hS := (congrArg Prod.snd e).symm.trans (table_keep m c t.val t.isLt)
    dsimp only at hS
    have e1 := congrArg Prod.fst e
    dsimp only at e1
    rw [e1]
    have h1 := outA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) (iblk m c 5 t) (table m c) hS r n
    exact h1
  · have e := outsAt0_B m c t h0
    have hS := table_keep m c (t.val - 1) (Nat.lt_of_le_of_lt (Nat.sub_le _ _) t.isLt)
    rw [hS] at e
    have e1 := congrArg Prod.fst e
    dsimp only at e1
    rw [e1]
    exact outB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (table m c) r n

end Cert.Proof

end
-- ==== Proof.TableAt.lean ====
/- The table of log-probabilities at a place. -/
module

public import proofs.«01_k».proof.Proof.Point

@[expose] public section

noncomputable section

namespace Cert.Proof

open Cert.KernelIdeal Cert.KernelIdeal.Gen Idealize.ShloMosaic Idealize.ShloMosaic.TcCoe Idealize.SL.Sem

set_option maxRecDepth 16384

/-- The activation of a hidden number. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- The logits of a hidden row. -/
def logit (h : Fin 256 → EReal) (w : Fin 256 → Fin 4 → EReal) (b : Fin 4 → EReal) (c : Fin 4) : EReal := (∑ k, gelu (h k) * w k c) + b c

/-- The largest of four numbers. -/
def max4 (l : Fin 4 → EReal) : EReal := max (max (l 0) (l 1)) (max (l 2) (l 3))

/-- The exponentials of four numbers, the largest taken away. -/
def expo (l : Fin 4 → EReal) (c : Fin 4) : EReal := Ideal.exp (l c - max4 l)

/-- The softmax of four numbers. -/
def prob (l : Fin 4 → EReal) (c : Fin 4) : EReal := Ideal.div (expo l c) (expo l 0 + expo l 1 + expo l 2 + expo l 3)

/-- The index of the largest of four numbers, by a running comparison. -/
def greedy (p : Fin 4 → EReal) : BitVec 32 :=
  if (if (if p 0 < p 1 then p 1 else p 0) < p 2 then p 2 else (if p 0 < p 1 then p 1 else p 0)) < p 3 then 3#32
  else if (if p 0 < p 1 then p 1 else p 0) < p 2 then 2#32 else if p 0 < p 1 then 1#32 else 0#32

/-- The table's entry: a mask of the greedy category at time zero, else the logarithm of the probability. -/
def entry (t : BitVec 32) (p : Fin 4 → EReal) (c : Fin 4) : EReal :=
  if t = 0#32 then (if BitVec.ofNat 32 c.val = greedy p then 0 else Ideal.ofBits .f32 0xF149F2CA#32) else Ideal.log (p c + Ideal.ofBits .f32 0x1E3CE508#32)

/-- A column at a place. -/
theorem colV_at (n : ℕ) (h : n < 4) (x : FVec Ideal S128x4 .f32) (b : Fin 128) (z : Fin 1) : colV n h x (ix2 b z) = x (ix2 b ⟨n, h⟩) := by
  pointwise [colV]

/-- The activations at a place. -/
theorem geluV_at (h : FVec Ideal S128x256 .f32) (b : Fin 128) (k : Fin 256) : geluV h (ix2 b k) = gelu (h (ix2 b k)) := by
  pointwise [geluV, gelu]

/-- The logits at a place. -/
theorem logitV_at (ht : FVec Ideal S128x256 .f32) (er : Vec Ideal S1x256 .f32) (w : Vec Ideal S256x4 .f32) (bb : Vec Ideal S1x4 .f32) (b : Fin 128) (c : Fin 4) :
    logitV ht er w bb (ix2 b c) = logit (fun k => ht (ix2 b k) + er (ix2 0 k)) (fun k c => w (ix2 k c)) (fun c => bb (ix2 0 c)) c := by
  pointwise [logitV, logit]
  simp only [geluV_at]
  pointwise []

/-- The exponentials at a place. -/
theorem expV_at (l : FVec Ideal S128x4 .f32) (b : Fin 128) (c : Fin 4) : expV l (ix2 b c) = expo (fun c => l (ix2 b c)) c := by
  pointwise [expV, expo, max4]
  simp only [colV_at]
  rfl

/-- The probabilities at a place. -/
theorem probV_at (e : FVec Ideal S128x4 .f32) (b : Fin 128) (c : Fin 4) :
    probV e (ix2 b c) = Ideal.div (e (ix2 b c)) (e (ix2 b 0) + e (ix2 b 1) + e (ix2 b 2) + e (ix2 b 3)) := by
  pointwise [probV]
  simp only [colV_at]
  rfl

/-- The greedy category at a place. -/
theorem greedyV_at (p : FVec Ideal S128x4 .f32) (b : Fin 128) (z : Fin 1) : greedyV p (ix2 b z) = greedy fun c => p (ix2 b c) := by
  pointwise [greedyV, hit1V, hit2V, hit3V, top1V, top2V]
  simp only [colV_at]
  rfl

/-- The table's columns at a place. -/
theorem maskV_at (t2 : IVec S128x1 32) (p : FVec Ideal S128x4 .f32) (b : Fin 128) (c : Fin 4) :
    maskV t2 p (ix2 b c) = entry (t2 (ix2 b 0)) (fun c => p (ix2 b c)) c := by
  pointwise [maskV, entry]
  simp only [greedyV_at, select_eq]

/-- The number that a comparison of two words gives. -/
theorem hot_eq (x y : BitVec 32) : FloatOps.sitofp (F := Ideal) FTy.f32 (BitVec.setWidth 32 (IntOp.cmpi .eq x y)) = if x = y then 1 else 0 := by
  by_cases h : x = y
  · have e : IntOp.cmpi .eq x y = 1#1 := by simp [IntOp.cmpi, h]
    rw [e, if_pos h]
    show ((((BitVec.setWidth 32 1#1).toInt : ℤ) : ℝ) : EReal) = 1
    rw [show (BitVec.setWidth 32 1#1).toInt = 1 by decide]
    norm_num
  · have h' : (x == y) = false := by simpa using h
    have e : IntOp.cmpi .eq x y = 0#1 := by simp [IntOp.cmpi, h']
    rw [e, if_neg h]
    show ((((BitVec.setWidth 32 0#1).toInt : ℤ) : ℝ) : EReal) = 0
    rw [show (BitVec.setWidth 32 0#1).toInt = 0 by decide]
    norm_num

/-- The time embedding's row that a one-hot product reads, at a place. -/
theorem hid_at (t2 : Vec Ideal S128x1 .i32) (te : Vec Ideal S100x256 .f32) (b : Fin 128) (k : Fin 256) (t : Fin 100) (ht : t2 (ix2 b 0) = BitVec.ofNat 32 t.val) :
    k0_pay3 (F := Ideal) t2 te (ix2 b k) = te (ix2 t k) := by
  pointwise [k0_pay3, k0_pay2]
  rw [ht]
  have key : ∀ x : Fin 100, BitVec.ofNat 32 x.val = BitVec.ofNat 32 t.val ↔ x = t := by
    intro x
    constructor
    · intro h
      have h' := congrArg BitVec.toNat h
      simp only [BitVec.toNat_ofNat] at h'
      exact Fin.ext (by omega)
    · rintro rfl; rfl
  rw [Finset.sum_eq_single t]
  · rw [hot_eq, if_pos rfl, one_mul]
  · intro x _ hx
    rw [hot_eq, if_neg (fun h => hx ((key x).mp h)), zero_mul]
  · intro h
    exact absurd (Finset.mem_univ t) h

/-- The table's columns for the value `v`, at a place. -/
theorem tabV_at (t2 : Vec Ideal S128x1 .i32) (te : Vec Ideal S100x256 .f32) (er : Fin 4 → Vec Ideal S1x256 .f32) (w : Vec Ideal S256x4 .f32) (bb : Vec Ideal S1x4 .f32)
    (v : Fin 4) (b : Fin 128) (c : Fin 4) (t : Fin 100) (ht : t2 (ix2 b 0) = BitVec.ofNat 32 t.val) :
    tabV t2 te er w bb v (ix2 b c)
      = entry (t2 (ix2 b 0)) (prob (logit (fun k => te (ix2 t k) + er v (ix2 0 k)) (fun k c => w (ix2 k c)) fun c => bb (ix2 0 c))) c := by
  have e : k0_pay2 t2 (ix2 b 0) = t2 (ix2 b 0) := by pointwise [k0_pay2]
  unfold tabV
  rw [maskV_at, e]
  simp only [probV_at, expV_at, logitV_at, hid_at t2 te b _ t ht]
  rfl

/-- A load of part of an array, at a place. -/
theorem load_at {S : Shape} {e : EltTy} (arg : Memref sig .tc .vmem S e) (harg : arg.IsWhole) (x : Vec Ideal S e) (off size : Fin S.rank → ℕ)
    (h : ∀ a, off a + size a ≤ S.size a) (j : (Rect.unit (s := S) off size h).shape.Idx) (i : S.Idx) (hi : ∀ a, off a + (j a).val = (i a).val) :
    View.readAt (Elt Ideal) arg.view (Rect.unit (s := S) off size h).toLoadRect (harg.unread x) j = x i := by
  rw [View.readAt_eq_ld, Memref.IsWhole.read_unread]
  refine congrArg x ?_
  funext a
  apply Fin.ext
  show off a + 1 * (j a).val = (i a).val
  rw [Nat.one_mul, hi]

/-- The table that the first point's stores leave, at a place. -/
theorem sout_at (c : Dev nD) (i : grid0.Coords) (arg1 : Memref sig .tc .vmem S1x16x8192 .i32) (harg1 : arg1.IsWhole) (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole) (arg7 : Memref sig .tc .vmem S1x16x8192 .i32) (harg7 : arg7.IsWhole) (arg8 : Memref sig .tc .vmem S128x16 .f32) (harg8 : arg8.IsWhole) (hc0 : cond0_0 i)
    (x0 : Vec Ideal S1x16x8192 .i32) (x1 : Vec Ideal S128x1 .i32) (x2 : Vec Ideal S4x256 .f32) (x3 : Vec Ideal S100x256 .f32) (x4 : Vec Ideal S256x4 .f32) (x5 : Vec Ideal S1x4 .f32)
    (b : Fin 128) (v w : Fin 4) :
    sout0_A_0 (F := Ideal) c i arg1 harg1 arg2 harg2 arg3 harg3 arg4 harg4 arg5 harg5 arg6 harg6 arg7 harg7 arg8 harg8 hc0 x0 x1 x2 x3 x4 x5 (ix2 b ⟨4 * v.val + w.val, by omega⟩)
      = tabOf arg2 harg2 arg3 harg3 arg4 harg4 arg5 harg5 arg6 harg6 x1 x2 x3 x4 x5 v (ix2 b w) := by
  unfold sout0_A_0
  have hc := scover0_A_0 (F := Ideal) c i arg1 harg1 arg2 harg2 arg3 harg3 arg4 harg4 arg5 harg5 arg6 harg6 arg7 harg7 arg8 harg8 hc0 x0 x1 x2 x3 x4 x5
  rw [scratch_A] at hc ⊢
  generalize tabOf arg2 harg2 arg3 harg3 arg4 harg4 arg5 harg5 arg6 harg6 x1 x2 x3 x4 x5 = T at hc ⊢
  let G : S128x16.Idx → EReal := fun y => T ⟨(y 1).val / 4, by have : (y 1).val < 16 := (y 1).isLt; omega⟩ (ix2 (y 0) ⟨(y 1).val % 4, by omega⟩)
  have hG : ∀ u : Fin 4, ∀ x : (Rect.unit (s := S128x16) ![0, 4 * u.val] S128x4.size (inbTab u)).shape.Idx,
      T u x = G ((Rect.unit (s := S128x16) ![0, 4 * u.val] S128x4.size (inbTab u)).emb x) := by
    intro u (x : S128x4.Idx)
    obtain ⟨p, q, rfl⟩ : ∃ (p : Fin 128) (q : Fin 4), x = ix2 p q := ⟨x 0, x 1, eq_ix2 x⟩
    show T u (ix2 p q) = T ⟨(4 * u.val + 1 * q.val) / 4, _⟩ (ix2 ⟨0 + 1 * p.val, _⟩ ⟨(4 * u.val + 1 * q.val) % 4, _⟩)
    congr 1
    · congr 1
      exact Fin.ext (by show u.val = (4 * u.val + 1 * q.val) / 4; omega)
    · congr 1
      · exact Fin.ext (by show p.val = 0 + 1 * p.val; omega)
      · exact Fin.ext (by show q.val = (4 * u.val + 1 * q.val) % 4; omega)
  refine (View.read_writes_apply_of_pieces VS0_0 VS0_0.junk G _ (fun p hp => ?_) _ (hc _)).trans ?_
  · simp only [tabPieces, List.mem_cons, List.not_mem_nil, or_false] at hp
    rcases hp with rfl | rfl | rfl | rfl
    all_goals exact hG _
  · show T ⟨(4 * v.val + w.val) / 4, _⟩ (ix2 b ⟨(4 * v.val + w.val) % 4, _⟩) = T v (ix2 b w)
    have e1 : (⟨(4 * v.val + w.val) / 4, by omega⟩ : Fin 4) = v := Fin.ext (by show (4 * v.val + w.val) / 4 = v.val; omega)
    have e2 : (⟨(4 * v.val + w.val) % 4, by omega⟩ : Fin 4) = w := Fin.ext (by show (4 * v.val + w.val) % 4 = w.val; omega)
    rw [e1, e2]

/-- The table's columns as the first point computes them, at a place. -/
theorem tabOf_at (arg2 : Memref sig .tc .vmem S128x1 .i32) (harg2 : arg2.IsWhole) (arg3 : Memref sig .tc .vmem S4x256 .f32) (harg3 : arg3.IsWhole) (arg4 : Memref sig .tc .vmem S100x256 .f32) (harg4 : arg4.IsWhole) (arg5 : Memref sig .tc .vmem S256x4 .f32) (harg5 : arg5.IsWhole) (arg6 : Memref sig .tc .vmem S1x4 .f32) (harg6 : arg6.IsWhole)
    (x1 : Vec Ideal S128x1 .i32) (x2 : Vec Ideal S4x256 .f32) (x3 : Vec Ideal S100x256 .f32) (x4 : Vec Ideal S256x4 .f32) (x5 : Vec Ideal S1x4 .f32)
    (v : Fin 4) (b : Fin 128) (c : Fin 4) (t : Fin 100) (ht : x1 (ix2 b 0) = BitVec.ofNat 32 t.val) :
    tabOf arg2 harg2 arg3 harg3 arg4 harg4 arg5 harg5 arg6 harg6 x1 x2 x3 x4 x5 v (ix2 b c)
      = entry (x1 (ix2 b 0)) (prob (logit (fun k => x3 (ix2 t k) + x2 (ix2 v k)) (fun k c => x4 (ix2 k c)) fun c => x5 (ix2 0 c))) c := by
  have l2 : ∀ i, View.readAt (Elt Ideal) arg2.view (Rect.unit (s := S128x1) ![0, 0] S128x1.size inb_S128x1_S128x1_0_0).toLoadRect (harg2.unread x1) i = x1 i :=
    fun i => load_at arg2 harg2 x1 ![0, 0] S128x1.size inb_S128x1_S128x1_0_0 i i fun a => match a with
      | ⟨0, _⟩ => Nat.zero_add _
      | ⟨1, _⟩ => Nat.zero_add _
  have l4 : ∀ i, View.readAt (Elt Ideal) arg4.view (Rect.unit (s := S100x256) ![0, 0] S100x256.size inb_S100x256_S100x256_0_0).toLoadRect (harg4.unread x3) i = x3 i :=
    fun i => load_at arg4 harg4 x3 ![0, 0] S100x256.size inb_S100x256_S100x256_0_0 i i fun a => match a with
      | ⟨0, _⟩ => Nat.zero_add _
      | ⟨1, _⟩ => Nat.zero_add _
  have l5 : ∀ i, View.readAt (Elt Ideal) arg5.view (Rect.unit (s := S256x4) ![0, 0] S256x4.size inb_S256x4_S256x4_0_0).toLoadRect (harg5.unread x4) i = x4 i :=
    fun i => load_at arg5 harg5 x4 ![0, 0] S256x4.size inb_S256x4_S256x4_0_0 i i fun a => match a with
      | ⟨0, _⟩ => Nat.zero_add _
      | ⟨1, _⟩ => Nat.zero_add _
  have l6 : ∀ i, View.readAt (Elt Ideal) arg6.view (Rect.unit (s := S1x4) ![0, 0] S1x4.size inb_S1x4_S1x4_0_0).toLoadRect (harg6.unread x5) i = x5 i :=
    fun i => load_at arg6 harg6 x5 ![0, 0] S1x4.size inb_S1x4_S1x4_0_0 i i fun a => match a with
      | ⟨0, _⟩ => Nat.zero_add _
      | ⟨1, _⟩ => Nat.zero_add _
  have l3 : ∀ k : Fin 256, View.readAt (Elt Ideal) arg3.view (Rect.unit (s := S4x256) ![v.val, 0] S1x256.size (inbEmb v)).toLoadRect (harg3.unread x2) (ix2 (0 : Fin 1) k) = x2 (ix2 v k) :=
    fun k => load_at arg3 harg3 x2 ![v.val, 0] S1x256.size (inbEmb v) (ix2 (0 : Fin 1) k) (ix2 v k) fun a => match a with
      | ⟨0, _⟩ => Nat.add_zero _
      | ⟨1, _⟩ => Nat.zero_add _
  unfold tabOf
  rw [tabV_at _ _ _ _ _ v b c t ((l2 _).trans ht)]
  simp only [l2, l3, l4, l5, l6]

/-- The table at a place, from the first point's blocks. -/
theorem table_at (m : (ℓ : Loc nD τ sig) → Buf (Elt Ideal) ℓ) (d : Dev nD) (b : Fin 128) (v w : Fin 4) (t : Fin 100)
    (x1 : Vec Ideal S128x1 .i32) (x2 : Vec Ideal S4x256 .f32) (x3 : Vec Ideal S100x256 .f32) (x4 : Vec Ideal S256x4 .f32) (x5 : Vec Ideal S1x4 .f32)
    (h1 : iblk m d 1 ⟨0, by decide⟩ = x1) (h2 : iblk m d 2 ⟨0, by decide⟩ = x2) (h3 : iblk m d 3 ⟨0, by decide⟩ = x3)
    (h4 : iblk m d 4 ⟨0, by decide⟩ = x4) (h5 : iblk m d 5 ⟨0, by decide⟩ = x5) (ht : x1 (ix2 b 0) = BitVec.ofNat 32 t.val) :
    table m d (ix2 b ⟨4 * v.val + w.val, by omega⟩)
      = entry (x1 (ix2 b 0)) (prob (logit (fun k => x3 (ix2 t k) + x2 (ix2 v k)) (fun k c => x4 (ix2 k c)) fun c => x5 (ix2 0 c))) w := by
  have e := congrArg Prod.snd (outsAt0_A m d ⟨0, by decide⟩ rfl)
  dsimp only at e
  unfold table
  rw [e, h1, h2, h3, h4, h5, sout_at, tabOf_at _ _ _ _ _ _ _ _ _ _ _ _ _ _ _ v b w t ht]

end Cert.Proof

end
-- ==== Proof.Blocks.lean ====
/- What the launch's blocks hold of the arguments. -/
module

public import proofs.«01_k».proof.Proof.TableAt
public import Idealize.ShloMosaic.Lib.StableHlo.ReadAt

@[expose] public section

noncomputable section

namespace Cert.Proof

open Cert.KernelIdeal Cert.KernelIdeal.Gen Idealize.ShloMosaic Idealize.ShloMosaic.TcCoe Idealize.SL.Sem

set_option maxRecDepth 16384

variable (m : (ℓ : Loc nD τ sig) → Buf (Elt Ideal) ℓ)

/-- The coordinate of a point of the grid. -/
theorem coords_at (t : Fin cfg0.N) : (grid0.coords t 0).val = t.val := by revert t; decide +kernel

/-- The categories' blocks. -/
theorem idx0 : ∀ t : Fin cfg0.N, win0_0.index t = ![t.val, 0, 0] := (by decide +kernel : ∀ t : Fin grid0.N, win0_0.index t = ![t.val, 0, 0])

/-- The times' block. -/
theorem idx1 : ∀ t : Fin cfg0.N, win0_1.index t = ![0, 0] := (by decide +kernel : ∀ t : Fin grid0.N, win0_1.index t = ![0, 0])

/-- The embedding's block. -/
theorem idx2 : ∀ t : Fin cfg0.N, win0_2.index t = ![0, 0] := (by decide +kernel : ∀ t : Fin grid0.N, win0_2.index t = ![0, 0])

/-- The time embedding's block. -/
theorem idx3 : ∀ t : Fin cfg0.N, win0_3.index t = ![0, 0] := (by decide +kernel : ∀ t : Fin grid0.N, win0_3.index t = ![0, 0])

/-- The head's weights' block. -/
theorem idx4 : ∀ t : Fin cfg0.N, win0_4.index t = ![0, 0] := (by decide +kernel : ∀ t : Fin grid0.N, win0_4.index t = ![0, 0])

/-- The head's bias's block. -/
theorem idx5 : ∀ t : Fin cfg0.N, win0_5.index t = ![0, 0] := (by decide +kernel : ∀ t : Fin grid0.N, win0_5.index t = ![0, 0])

/-- The results' blocks. -/
theorem idx6 : ∀ t : Fin cfg0.N, win0_6.index t = ![t.val, 0, 0] := (by decide +kernel : ∀ t : Fin grid0.N, win0_6.index t = ![t.val, 0, 0])

/-- The categories of a point. -/
theorem cats_at (c : Dev nD) (t : Fin cfg0.N) (r : Fin 16) (n : Fin 8192) :
    iblk m c 0 t (ix3 0 r n) = (m ((c : Thread nD τ).loc main_arg0) : Vec Ideal S128x8192 .i32) (ix2 (bat (grid0.coords t) r) n) := by
  have hb : (bat (grid0.coords t) r).val = 16 * t.val + r.val := congrArg (fun x => 16 * x + r.val) (coords_at t)
  unfold iblk
  rw [View.read_apply, cast_eq]
  unfold V
  after_reads_at
  blk_ext [idx0 t]

/-- The times. -/
theorem times_at (c : Dev nD) (t : Fin cfg0.N) (b : Fin 128) (z : Fin 1) :
    iblk m c 1 t (ix2 b z) = (m ((c : Thread nD τ).loc main_arg1) : Vec Ideal S128 .i32) (ix1 b) := by
  unfold iblk
  rw [View.read_apply, cast_eq]
  unfold V
  after_reads_at
  blk_ext [idx1 t]

/-- The embedding. -/
theorem emb_blk (c : Dev nD) (t : Fin cfg0.N) : iblk m c 2 t = (m ((c : Thread nD τ).loc main_arg2) : Vec Ideal S4x256 .f32) := by
  funext y
  unfold iblk
  rw [View.read_apply, cast_eq]
  unfold V
  after_reads_at
  blk_ext [idx2 t]

/-- The time embedding. -/
theorem temb_blk (c : Dev nD) (t : Fin cfg0.N) : iblk m c 3 t = (m ((c : Thread nD τ).loc main_arg3) : Vec Ideal S100x256 .f32) := by
  funext y
  unfold iblk
  rw [View.read_apply, cast_eq]
  unfold V
  after_reads_at
  blk_ext [idx3 t]

/-- The head's weights. -/
theorem head_blk (c : Dev nD) (t : Fin cfg0.N) : iblk m c 4 t = (m ((c : Thread nD τ).loc main_arg4) : Vec Ideal S256x4 .f32) := by
  funext y
  unfold iblk
  rw [View.read_apply, cast_eq]
  unfold V
  after_reads_at
  blk_ext [idx4 t]

/-- The head's bias. -/
theorem bias_at (c : Dev nD) (t : Fin cfg0.N) (z : Fin 1) (k : Fin 4) :
    iblk m c 5 t (ix2 z k) = (m ((c : Thread nD τ).loc main_arg5) : Vec Ideal S4 .f32) (ix1 k) := by
  unfold iblk
  rw [View.read_apply, cast_eq]
  unfold V
  after_reads_at
  blk_ext [idx5 t]

/-- The probabilities of a category at a time, from the model's parameters. -/
def model (e : Fin 256 → EReal) (te : Fin 256 → EReal) (w : Fin 256 → Fin 4 → EReal) (b : Fin 4 → EReal) : Fin 4 → EReal :=
  prob (logit (fun k => te k + e k) w b)

/-- The kernel's table at a place, from the arguments. -/
theorem table_eq (c : Dev nD) (b : Fin 128) (v w : Fin 4) (t : Fin 100)
    (ht : (m ((c : Thread nD τ).loc main_arg1) : Vec Ideal S128 .i32) (ix1 b) = BitVec.ofNat 32 t.val) :
    table m c (ix2 b ⟨4 * v.val + w.val, by omega⟩)
      = entry (BitVec.ofNat 32 t.val) (model (fun k => (m ((c : Thread nD τ).loc main_arg2) : Vec Ideal S4x256 .f32) (ix2 v k))
          (fun k => (m ((c : Thread nD τ).loc main_arg3) : Vec Ideal S100x256 .f32) (ix2 t k))
          (fun k u => (m ((c : Thread nD τ).loc main_arg4) : Vec Ideal S256x4 .f32) (ix2 k u))
          (fun u => (m ((c : Thread nD τ).loc main_arg5) : Vec Ideal S4 .f32) (ix1 u))) w := by
  have e := table_at m c b v w t (iblk m c 1 ⟨0, by decide⟩) _ _ _ (iblk m c 5 ⟨0, by decide⟩) rfl (emb_blk m c _) (temb_blk m c _) (head_blk m c _) rfl ((times_at m c _ b 0).trans ht)
  rw [e, times_at m c _ b 0, ht]
  simp only [bias_at m c _ 0]
  rfl

/-- The result at a place is what the point of its group leaves there. -/
theorem result_at (c : Dev nD) (g : Fin 8) (r : Fin 16) (n : Fin 8192) :
    (dats m 0 c).arrAt 6 cfg0.N (ix3 g r n) = (outsAt0 m c g.val (lt_of_lt_of_eq g.isLt N_0.symm)).1 (ix3 0 r n) := by
  have h : (dats m 0 c).arrAt 6 cfg0.N = fun y : S8x16x8192.Idx => (outsAt0 m c (y 0).val (lt_of_lt_of_eq (y 0).isLt N_0.symm)).1 (ix3 0 (y 1) (y 2)) := by
    refine (dats m 0 c).arrAt_eq_of_covers 6 _ (by decide +kernel) fun t hf y => ?_
    blk_simp
    rw [after0_6]
    have key : ∀ (k : ℕ) (hk : k < cfg0.N) (z z' : S1x16x8192.Idx), t.val = k → z = z' → (outsAt0 m c t.val t.isLt).1 z = (outsAt0 m c k hk).1 z' := by
      rintro k hk z z' rfl rfl
      rfl
    refine key _ _ _ _ (by rw [idx6]; rfl) ?_
    blk_ext [idx6 t]
  rw [h]
  rfl

end Cert.Proof

end
-- ==== Proof.Math.lean ====
/- The order and the analysis behind the two programs: four scores' first largest index, and the bounds of a Gumbel
   variate that make a masked score lose. -/
module

public import proofs.«01_k».proof.Proof.Blocks
import Mathlib.Tactic.Order

@[expose] public section

noncomputable section

namespace Cert.Proof

open Idealize.ShloMosaic

/-- The running comparison finds the index that the tournament finds. -/
theorem greedy_eq (p : Fin 4 → EReal) : greedy p = tourn p := by
  unfold greedy tourn
  generalize p 0 = a
  generalize p 1 = b
  generalize p 2 = c
  generalize p 3 = d
  split_ifs <;> first | rfl | (exfalso; simp only [not_lt] at *; order)

/-- The tournament's index is one of the four. -/
theorem tourn_mem (p : Fin 4 → EReal) : ∃ c : Fin 4, tourn p = BitVec.ofNat 32 c.val := by
  unfold tourn
  split_ifs
  all_goals first | exact ⟨0, rfl⟩ | exact ⟨1, rfl⟩ | exact ⟨2, rfl⟩ | exact ⟨3, rfl⟩

/-- A score above the three others wins the tournament. -/
theorem tourn_of_lt (s : Fin 4 → EReal) (k : Fin 4) (h : ∀ c, c ≠ k → s c < s k) : tourn s = BitVec.ofNat 32 k.val := by
  have h0 := h 0
  have h1 := h 1
  have h2 := h 2
  have h3 := h 3
  unfold tourn
  generalize hk : s k = t at *
  fin_cases k
  all_goals
    simp at hk h0 h1 h2 h3
    split_ifs <;> first | rfl | (exfalso; simp only [not_lt] at *; subst hk; order)

/-- The index of the largest of four numbers as the least of the indices at which it is attained. -/
def least (s : Fin 4 → EReal) : BitVec 32 :=
  if s 0 = max4 s then 0#32 else if s 1 = max4 s then 1#32 else if s 2 = max4 s then 2#32 else if s 3 = max4 s then 3#32 else 4#32

/-- That least index is the tournament's. -/
theorem least_eq (s : Fin 4 → EReal) : least s = tourn s := by
  unfold least tourn max4
  generalize s 0 = a
  generalize s 1 = b
  generalize s 2 = c
  generalize s 3 = d
  split_ifs <;> first | rfl | (exfalso; rcases le_total a b with h1 | h1 <;> rcases le_total c d with h2 | h2 <;> simp only [max_eq_left h1, max_eq_right h1, max_eq_left h2, max_eq_right h2] at * <;> (first | order | (rcases le_total (max a b) (max c d) with h3 | h3 <;> simp_all <;> order)))

/-- The number in [1, 2) that a word gives, by its upper 23 bits. -/
theorem unit_eq (w : BitVec 32) : ∃ f : ℕ, f < 8388608 ∧ unit w = (((f : ℝ) / 8388608 + 1 : ℝ) : EReal) := by
  have h1 : ((w >>> 9#32) ||| 1065353216#32).extractLsb' 31 1 = 0#1 := by
    ext i hi
    have : i = 0 := by omega
    subst this
    simp
  have h2 : ((w >>> 9#32) ||| 1065353216#32).extractLsb' 23 8 = 127#8 := by
    ext i hi
    interval_cases i <;> simp
  refine ⟨(((w >>> 9#32) ||| 1065353216#32).extractLsb' 0 23).toNat, BitVec.isLt _, ?_⟩
  unfold unit
  show Ideal.ieee 8 23 ((w >>> 9#32) ||| 1065353216#32) = _
  unfold Ideal.ieee
  simp only [show 8 + 23 = 31 from rfl, h1, h2]
  generalize (((w >>> 9#32) ||| 1065353216#32).extractLsb' 0 23).toNat = f
  rw [if_neg (by decide), if_neg (by decide)]
  congr 1
  rw [if_neg (by decide)]
  push_cast
  norm_num
  ring

/-- The least positive normal number. -/
theorem tiny_eq : Ideal.ofBits .f32 8388608#32 = (((2 : ℝ) ^ (-126 : ℤ) : ℝ) : EReal) := by
  simp [Ideal.ofBits, Ideal.ieee]
  rw [← EReal.coe_mul]
  congr 1
  norm_num

/-- The mask's number. -/
theorem big_eq : ∃ x : ℝ, x ≤ -1000 ∧ Ideal.ofBits .f32 0xF149F2CA#32 = (x : EReal) := by
  refine ⟨_, ?_, (by simp only [Ideal.ofBits, Ideal.ieee]; rw [if_neg (by decide), if_neg (by decide)])⟩
  simp
  norm_num

/-- A uniform variate lies well inside the unit interval. -/
theorem uni_eq (w : BitVec 32) : ∃ u : ℝ, uni w = (u : EReal) ∧ (2 : ℝ) ^ (-126 : ℤ) ≤ u ∧ u ≤ 1 - 1 / 16777216 := by
  obtain ⟨f, hf, e⟩ := unit_eq w
  refine ⟨(f : ℝ) / 8388608 + 1 - 1 + (2 : ℝ) ^ (-126 : ℤ), ?_, ?_, ?_⟩
  · unfold uni
    rw [e, tiny_eq, ← EReal.coe_one, ← EReal.coe_sub, ← EReal.coe_add]
  · have : (0 : ℝ) ≤ (f : ℝ) / 8388608 := by positivity
    linarith
  · have h1 : (f : ℝ) ≤ 8388607 := by exact_mod_cast Nat.le_of_lt_succ hf
    have h2 : (2 : ℝ) ^ (-126 : ℤ) ≤ 1 / 16777216 := by norm_num
    linarith

/-- A Gumbel variate is a number of small size. -/
theorem gum_eq (w : BitVec 32) : ∃ g : ℝ, gum w = (g : EReal) ∧ -200 ≤ g ∧ g ≤ 200 := by
  obtain ⟨u, e, h1, h2⟩ := uni_eq w
  have hp : (0 : ℝ) < (2 : ℝ) ^ (-126 : ℤ) := by positivity
  have hu : 0 < u := lt_of_lt_of_le hp h1
  have l1 : Real.log u ≤ -(1 / 16777216) := by linarith [Real.log_le_sub_one_of_pos hu]
  have l2 : -126 ≤ Real.log u := by
    have h3 : Real.log ((2 : ℝ) ^ (-126 : ℤ)) ≤ Real.log u := Real.log_le_log hp h1
    rw [Real.log_zpow] at h3
    have h4 := Real.log_le_sub_one_of_pos (show (0 : ℝ) < 2 by norm_num)
    push_cast at h3
    linarith
  have hn : 0 < -Real.log u := by linarith
  have m1 : Real.log (-Real.log u) ≤ 125 := by linarith [Real.log_le_sub_one_of_pos hn]
  have m2 : -24 ≤ Real.log (-Real.log u) := by
    have h3 : Real.log ((2 : ℝ) ^ (-24 : ℤ)) ≤ Real.log (-Real.log u) := Real.log_le_log (by positivity) (by
      rw [show (2 : ℝ) ^ (-24 : ℤ) = 1 / 16777216 by norm_num]; linarith)
    rw [Real.log_zpow] at h3
    have h4 := Real.log_le_sub_one_of_pos (show (0 : ℝ) < 2 by norm_num)
    push_cast at h3
    linarith
  refine ⟨-Real.log (-Real.log u), ?_, by linarith, by linarith⟩
  unfold gum
  rw [e, Ideal.log_coe, if_neg (not_le.mpr hu), ← EReal.coe_neg, Ideal.log_coe, if_neg (not_le.mpr hn), ← EReal.coe_neg]

/-- Under the mask the greedy category wins, whatever the Gumbel variates. -/
theorem masked (W : Fin 4 → BitVec 32) (p : Fin 4 → EReal) : tourn (fun c => gum (W c) + entry 0#32 p c) = tourn p := by
  obtain ⟨k, hk⟩ := tourn_mem p
  obtain ⟨x, hx, ex⟩ := big_eq
  have ne : ∀ c : Fin 4, BitVec.ofNat 32 c.val = BitVec.ofNat 32 k.val → c = k := by clear hk; revert k; decide
  rw [hk]
  refine tourn_of_lt _ k fun c hc => ?_
  unfold entry
  rw [greedy_eq, hk, if_pos rfl, if_pos rfl, if_pos rfl, if_neg (fun h => hc (ne c h)), ex]
  obtain ⟨g, eg, g1, g2⟩ := gum_eq (W c)
  obtain ⟨g', eg', g1', g2'⟩ := gum_eq (W k)
  rw [eg, eg', ← EReal.coe_zero, ← EReal.coe_add, ← EReal.coe_add, EReal.coe_lt_coe_iff]
  linarith

end Cert.Proof

end
-- ==== Proof.RefAt.lean ====
/- The reference's operations at a place, over any arrays: its gathers, logits, softmax, counters and argmax. -/
module

public import proofs.«01_k».proof.Proof.Math

@[expose] public section

noncomputable section

namespace Cert.Proof

open Cert.ReferenceIdeal Cert.ReferenceIdeal.Gen Cert.ReferenceIdeal.Value Idealize.ShloMosaic Idealize.ShloMosaic.TcCoe Idealize.ShloMosaic.StableHlo Idealize.SL.Sem

set_option maxRecDepth 16384

/-- The gather of embedding rows at a place. -/
theorem gatherEmb_at (x : Vec Ideal S4x256 .f32) (idx : IVec S128x8192x1 32) (b : Fin 128) (n : Fin 8192) (k : Fin 256) :
    Host.gather gather_S4x256_S128x8192x1_S128x8192x256_2_0_n_n_0_2_1256 x idx (ix3 b n k)
      = x (ix2 ⟨min (idx (ix3 b n 0)).toInt.toNat 3, by omega⟩ k) := by
  unfold Host.gather
  congr 1
  funext a
  refine Fin.ext ?_
  match a with
  | ⟨0, _⟩ =>
    show (gather_S4x256_S128x8192x1_S128x8192x256_2_0_n_n_0_2_1256).start (ix3 b n k) idx 0 + (gather_S4x256_S128x8192x1_S128x8192x256_2_0_n_n_0_2_1256).batchCoord (ix3 b n k) 0
      + (gather_S4x256_S128x8192x1_S128x8192x256_2_0_n_n_0_2_1256).offCoord (ix3 b n k) 0 = min (idx (ix3 b n 0)).toInt.toNat 3
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S4x256_S128x8192x1_S128x8192x256_2_0_n_n_0_2_1256).startIndexMap from List.mem_singleton.mpr rfl)]
    have hsi : (gather_S4x256_S128x8192x1_S128x8192x256_2_0_n_n_0_2_1256).siIdx (ix3 b n k) ⟨List.idxOf (0 : Fin 2) (gather_S4x256_S128x8192x1_S128x8192x256_2_0_n_n_0_2_1256).startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi]
    rfl
  | ⟨1, _⟩ =>
    show (gather_S4x256_S128x8192x1_S128x8192x256_2_0_n_n_0_2_1256).start (ix3 b n k) idx 1 + (gather_S4x256_S128x8192x1_S128x8192x256_2_0_n_n_0_2_1256).batchCoord (ix3 b n k) 1
      + (gather_S4x256_S128x8192x1_S128x8192x256_2_0_n_n_0_2_1256).offCoord (ix3 b n k) 1 = k.val
    rw [GatherDims.batchCoord_eq_zero _ _ _ List.not_mem_nil]
    unfold GatherDims.start
    rw [dif_neg (show (1 : Fin 2) ∉ (gather_S4x256_S128x8192x1_S128x8192x256_2_0_n_n_0_2_1256).startIndexMap from (by decide : (1 : Fin 2) ∉ [(0 : Fin 2)]))]
    simp only [Nat.zero_add, Nat.add_zero]
    rfl

/-- The gather of time embedding rows at a place. -/
theorem gatherTemb_at (x : Vec Ideal S100x256 .f32) (idx : IVec S128x1 32) (b : Fin 128) (k : Fin 256) :
    Host.gather gather_S100x256_S128x1_S128x256_1_0_n_n_0_1_1256 x idx (ix2 b k)
      = x (ix2 ⟨min (idx (ix2 b 0)).toInt.toNat 99, by omega⟩ k) := by
  unfold Host.gather
  congr 1
  funext a
  refine Fin.ext ?_
  match a with
  | ⟨0, _⟩ =>
    show (gather_S100x256_S128x1_S128x256_1_0_n_n_0_1_1256).start (ix2 b k) idx 0 + (gather_S100x256_S128x1_S128x256_1_0_n_n_0_1_1256).batchCoord (ix2 b k) 0
      + (gather_S100x256_S128x1_S128x256_1_0_n_n_0_1_1256).offCoord (ix2 b k) 0 = min (idx (ix2 b 0)).toInt.toNat 99
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100x256_S128x1_S128x256_1_0_n_n_0_1_1256).startIndexMap from List.mem_singleton.mpr rfl)]
    have hsi : (gather_S100x256_S128x1_S128x256_1_0_n_n_0_1_1256).siIdx (ix2 b k) ⟨List.idxOf (0 : Fin 2) (gather_S100x256_S128x1_S128x256_1_0_n_n_0_1_1256).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show (gather_S100x256_S128x1_S128x256_1_0_n_n_0_1_1256).start (ix2 b k) idx 1 + (gather_S100x256_S128x1_S128x256_1_0_n_n_0_1_1256).batchCoord (ix2 b k) 1
      + (gather_S100x256_S128x1_S128x256_1_0_n_n_0_1_1256).offCoord (ix2 b k) 1 = k.val
    rw [GatherDims.batchCoord_eq_zero _ _ _ List.not_mem_nil]
    unfold GatherDims.start
    rw [dif_neg (show (1 : Fin 2) ∉ (gather_S100x256_S128x1_S128x256_1_0_n_n_0_1_1256).startIndexMap from (by decide : (1 : Fin 2) ∉ [(0 : Fin 2)]))]
    simp only [Nat.zero_add, Nat.add_zero]
    rfl

/-- The wrapped categories. -/
def wrapCat (x : IVec S128x8192 32) : IVec S128x8192x1 32 :=
  broadcastInDim S128x8192x1 ![0, 1] bcast_S128x8192_S128x8192x1_0_1 (select (cmpi .slt x (broadcastInDim S128x8192 ![] bcast_S_S128x8192 (constantI S_ 32 0#32))) (addi x (broadcastInDim S128x8192 ![] bcast_S_S128x8192 (constantI S_ 32 4#32))) x)

/-- The wrapped times. -/
def wrapTime (t : IVec S128 32) : IVec S128x1 32 :=
  broadcastInDim S128x1 ![0] bcast_S128_S128x1_0 (select (cmpi .slt t (broadcastInDim S128 ![] bcast_S_S128 (constantI S_ 32 0#32))) (addi t (broadcastInDim S128 ![] bcast_S_S128 (constantI S_ 32 100#32))) t)

/-- Which categories are in range. -/
def okCat (x : IVec S128x8192x1 32) : IVec S128x8192 1 :=
  Host.reduce IntOp.andi (andi (cmpi .sge x (broadcastInDim S128x8192x1 ![] bcast_S_S128x8192x1 (constantI S_ 32 0#32))) (cmpi .sle x (broadcastInDim S128x8192x1 ![0, 1, 2] bcast_S1x1x1_S128x8192x1_0_1_2 (broadcastInDim S1x1x1 ![2] bcast_S1_S1x1x1_2 (constantI S1 32 3#32))))) (constantI S_ 1 1#1) reducesTo_S128x8192x1_S128x8192_d2 h_S_

/-- Which times are in range. -/
def okTime (t : IVec S128x1 32) : IVec S128 1 :=
  Host.reduce IntOp.andi (andi (cmpi .sge t (broadcastInDim S128x1 ![] bcast_S_S128x1 (constantI S_ 32 0#32))) (cmpi .sle t (broadcastInDim S128x1 ![0, 1] bcast_S1x1_S128x1_0_1 (broadcastInDim S1x1 ![1] bcast_S1_S1x1_1 (constantI S1 32 99#32))))) (constantI S_ 1 1#1) reducesTo_S128x1_S128_d1 h_S_

/-- The hidden layer from the gathered rows. -/
def hidR (c : IVec S128x8192 1) (e : FVec Ideal S128x8192x256 .f32) (d : IVec S128 1) (te : FVec Ideal S128x256 .f32) : FVec Ideal S128x8192x256 .f32 :=
  addf (select (broadcastInDim S128x8192x256 ![0, 1] bcast_S128x8192_S128x8192x256_0_1 c) e (broadcastInDim S128x8192x256 ![] bcast_S_S128x8192x256 (constant S_ .f32 0x7FC00000#32))) (broadcastInDim S128x8192x256 ![0, 1, 2] bcast_S128x1x256_S128x8192x256_0_1_2 (broadcastInDim S128x1x256 ![0, 2] bcast_S128x256_S128x1x256_0_2 (select (broadcastInDim S128x256 ![0] bcast_S128_S128x256_0 d) te (broadcastInDim S128x256 ![] bcast_S_S128x256 (constant S_ .f32 0x7FC00000#32)))))

/-- The activations. -/
def geluR (h : FVec Ideal S128x8192x256 .f32) : FVec Ideal S128x8192x256 .f32 :=
  mulf h (mulf (broadcastInDim S128x8192x256 ![] bcast_S_S128x8192x256 (constant S_ .f32 0x3F000000#32)) (addf (broadcastInDim S128x8192x256 ![] bcast_S_S128x8192x256 (constant S_ .f32 0x3F800000#32)) (Host.tanh (mulf (broadcastInDim S128x8192x256 ![] bcast_S_S128x8192x256 (constant S_ .f32 0x3F4C422A#32)) (addf h (mulf (broadcastInDim S128x8192x256 ![] bcast_S_S128x8192x256 (constant S_ .f32 0x3D372713#32)) (mulf (mulf h h) h)))))))

/-- The logits. -/
def logitR (g : FVec Ideal S128x8192x256 .f32) (w : FVec Ideal S256x4 .f32) (b : FVec Ideal S4 .f32) : FVec Ideal S128x8192x4 .f32 :=
  addf (Host.dotGeneral dot_S128x8192x256_S256x4_S128x8192x4_2_0_01_1_n_n none g w) (broadcastInDim S128x8192x4 ![0, 1, 2] bcast_S1x1x4_S128x8192x4_0_1_2 (broadcastInDim S1x1x4 ![2] bcast_S4_S1x1x4_2 b))

/-- The largest of every four numbers. -/
def maxR (l : FVec Ideal S128x8192x4 .f32) : FVec Ideal S128x8192 .f32 :=
  Host.reduce FloatOps.maximumf l (constant S_ .f32 0xFF800000#32) reducesTo_S128x8192x4_S128x8192_d2 h_S_

/-- The exponentials, from the largest. -/
def expR (l : FVec Ideal S128x8192x4 .f32) (mx : FVec Ideal S128x8192 .f32) : FVec Ideal S128x8192x4 .f32 :=
  Host.exp (subf l (broadcastInDim S128x8192x4 ![0, 1, 2] bcast_S128x8192x1_S128x8192x4_0_1_2 (broadcastInDim S128x8192x1 ![0, 1] bcast_S128x8192_S128x8192x1_0_1 (maximumf (broadcastInDim S128x8192 ![] bcast_S_S128x8192 (constant S_ .f32 0xFF800000#32)) mx))))

/-- The probabilities. -/
def probR (e : FVec Ideal S128x8192x4 .f32) : FVec Ideal S128x8192x4 .f32 :=
  Host.divf e (broadcastInDim S128x8192x4 ![0, 1, 2] bcast_S128x8192x1_S128x8192x4_0_1_2 (broadcastInDim S128x8192x1 ![0, 1] bcast_S128x8192_S128x8192x1_0_1 (Host.reduceAdd e (constant S_ .f32 0x00000000#32) reducesTo_S128x8192x4_S128x8192_d2 h_S_)))

/-- The indices at which the largest is attained, 4 elsewhere. -/
def atMax (p : FVec Ideal S128x8192x4 .f32) (mx : FVec Ideal S128x8192 .f32) : IVec S128x8192x4 32 :=
  select (cmpf .oeq p (broadcastInDim S128x8192x4 ![0, 1, 2] bcast_S128x8192x1_S128x8192x4_0_1_2 (broadcastInDim S128x8192x1 ![0, 1] bcast_S128x8192_S128x8192x1_0_1 mx))) (iotaInDim S128x8192x4 32 2) (broadcastInDim S128x8192x4 ![] bcast_S_S128x8192x4 (id (constantI S_ 32 4#32)))

/-- The least of every four indices. -/
def minR (i : IVec S128x8192x4 32) : IVec S128x8192 32 :=
  Host.reduce IntOp.minsi i (constantI S_ 32 2147483647#32) reducesTo_S128x8192x4_S128x8192_d2 h_S_

/-- The scores from the random words and the probabilities. -/
def scoreR (w : IVec S128x8192x4 32) (p : FVec Ideal S128x8192x4 .f32) : FVec Ideal S128x8192x4 .f32 :=
  addf (Host.negf (Host.log (Host.negf (Host.log (maximumf (broadcastInDim S128x8192x4 ![] bcast_S_S128x8192x4 (constant S_ .f32 0x00800000#32)) (addf (mulf (subf (bitcastToFloat (F := Ideal) .f32 (ori (Host.shrui w (broadcastInDim S128x8192x4 ![] bcast_S_S128x8192x4 (constantI S_ 32 9#32))) (broadcastInDim S128x8192x4 ![] bcast_S_S128x8192x4 (constantI S_ 32 1065353216#32)))) (broadcastInDim S128x8192x4 ![] bcast_S_S128x8192x4 (constant S_ .f32 0x3F800000#32))) (broadcastInDim S128x8192x4 ![] bcast_S_S128x8192x4 (constant S_ .f32 0x3F800000#32))) (broadcastInDim S128x8192x4 ![] bcast_S_S128x8192x4 (constant S_ .f32 0x00800000#32)))))))) (Host.log (addf p (broadcastInDim S128x8192x4 ![] bcast_S_S128x8192x4 (constant S_ .f32 0x1E3CE508#32))))

/-- The reference's result from its two indices. -/
def pickR (t : IVec S128 32) (g s : IVec S128x8192 32) : IVec S8x16x8192 32 :=
  shapeCast S8x16x8192 (select (broadcastInDim S128x8192 ![0, 1] bcast_S128x1_S128x8192_0_1 (broadcastInDim S128x1 ![0] bcast_S128_S128x1_0 (cmpi .eq t (broadcastInDim S128 ![] bcast_S_S128 (constantI S_ 32 0#32))))) g s) shapeCasts_S128x8192_S8x16x8192

/-- The wrapped category at a place. -/
theorem wrapCat_at (x : IVec S128x8192 32) (b : Fin 128) (n : Fin 8192) (z : Fin 1) (v : Fin 4) (hv : x (ix2 b n) = BitVec.ofNat 32 v.val) :
    wrapCat x (ix3 b n z) = BitVec.ofNat 32 v.val := by
  pointwise [wrapCat]
  rw [hv]
  clear hv
  revert v
  decide

/-- The wrapped time at a place. -/
theorem wrapTime_at (x : IVec S128 32) (b : Fin 128) (z : Fin 1) (t : Fin 100) (ht : x (ix1 b) = BitVec.ofNat 32 t.val) :
    wrapTime x (ix2 b z) = BitVec.ofNat 32 t.val := by
  pointwise [wrapTime]
  rw [ht]
  clear ht
  revert t
  decide

/-- A conjunction of a single bit that is one. -/
theorem all_one (f : Fin 1 → BitVec 1) (h : ∀ x, f x = 1#1) : Finset.fold IntOp.andi (1#1) f Finset.univ = 1#1 := by
  obtain rfl : f = fun _ => 1#1 := funext h
  rfl

/-- A category below four is in range. -/
theorem okCat_at (x : IVec S128x8192x1 32) (b : Fin 128) (n : Fin 8192) (v : Fin 4) (hv : ∀ z, x (ix3 b n z) = BitVec.ofNat 32 v.val) :
    okCat x (ix2 b n) = 1#1 := by
  pointwise [okCat]
  refine all_one _ fun z => ?_
  rw [hv]
  clear hv
  revert v
  decide

/-- A time below a hundred is in range. -/
theorem okTime_at (x : IVec S128x1 32) (b : Fin 128) (t : Fin 100) (ht : ∀ z, x (ix2 b z) = BitVec.ofNat 32 t.val) : okTime x (ix1 b) = 1#1 := by
  pointwise [okTime]
  refine all_one _ fun z => ?_
  rw [ht]
  clear ht
  revert t
  decide

/-- The hidden layer at a place that is in range. -/
theorem hidR_at (c : IVec S128x8192 1) (e : FVec Ideal S128x8192x256 .f32) (d : IVec S128 1) (te : FVec Ideal S128x256 .f32) (b : Fin 128) (n : Fin 8192) (k : Fin 256)
    (hc : c (ix2 b n) = 1#1) (hd : d (ix1 b) = 1#1) : hidR c e d te (ix3 b n k) = e (ix3 b n k) + te (ix2 b k) := by
  pointwise [hidR]
  rw [hc, hd]
  rfl

/-- The activations at a place. -/
theorem geluR_at (h : FVec Ideal S128x8192x256 .f32) (b : Fin 128) (n : Fin 8192) (k : Fin 256) : geluR h (ix3 b n k) = gelu (h (ix3 b n k)) := by
  pointwise [geluR]
  unfold gelu
  rw [mul_comm (h (ix3 b n k) * h (ix3 b n k)) (h (ix3 b n k))]

/-- The logits at a place. -/
theorem logitR_at (g : FVec Ideal S128x8192x256 .f32) (w : FVec Ideal S256x4 .f32) (bb : FVec Ideal S4 .f32) (b : Fin 128) (n : Fin 8192) (c : Fin 4) :
    logitR g w bb (ix3 b n c) = (∑ k, g (ix3 b n k) * w (ix2 k c)) + bb (ix1 c) := by
  pointwise [logitR]

/-- The least number of the extended line. -/
theorem neg_inf : Ideal.ofBits .f32 0xFF800000#32 = ⊥ := by
  simp [Ideal.ofBits, Ideal.ieee]

/-- The largest at a place. -/
theorem maxR_at (l : FVec Ideal S128x8192x4 .f32) (b : Fin 128) (n : Fin 8192) : maxR l (ix2 b n) = max4 fun c => l (ix3 b n c) := by
  pointwise [maxR]
  rw [neg_inf]
  show max (l (ix3 b n 0)) (max (l (ix3 b n 1)) (max (l (ix3 b n 2)) (max (l (ix3 b n 3)) ⊥))) = max (max (l (ix3 b n 0)) (l (ix3 b n 1))) (max (l (ix3 b n 2)) (l (ix3 b n 3)))
  rw [max_eq_left (bot_le (a := l (ix3 b n 3))), max_assoc]

/-- The exponentials at a place. -/
theorem expR_at (l : FVec Ideal S128x8192x4 .f32) (mx : FVec Ideal S128x8192 .f32) (b : Fin 128) (n : Fin 8192) (c : Fin 4) :
    expR l mx (ix3 b n c) = Ideal.exp (l (ix3 b n c) - mx (ix2 b n)) := by
  pointwise [expR]
  rw [neg_inf, max_eq_right bot_le]

/-- The probabilities at a place. -/
theorem probR_at (e : FVec Ideal S128x8192x4 .f32) (b : Fin 128) (n : Fin 8192) (c : Fin 4) :
    probR e (ix3 b n c) = Ideal.div (e (ix3 b n c)) (e (ix3 b n 0) + e (ix3 b n 1) + e (ix3 b n 2) + e (ix3 b n 3)) := by
  pointwise [probR]
  rw [Fin.sum_univ_four]

/-- The candidate indices at a place. -/
theorem atMax_at (p : FVec Ideal S128x8192x4 .f32) (mx : FVec Ideal S128x8192 .f32) (b : Fin 128) (n : Fin 8192) (c : Fin 4) :
    atMax p mx (ix3 b n c) = if p (ix3 b n c) = mx (ix2 b n) then BitVec.ofNat 32 c.val else 4#32 := by
  pointwise [atMax]
  rfl

/-- The least index at a place. -/
theorem minR_at (i : IVec S128x8192x4 32) (b : Fin 128) (n : Fin 8192) :
    minR i (ix2 b n) = IntOp.minsi (i (ix3 b n 0)) (IntOp.minsi (i (ix3 b n 1)) (IntOp.minsi (i (ix3 b n 2)) (IntOp.minsi (i (ix3 b n 3)) 2147483647#32))) := by
  pointwise [minR]
  rfl

/-- The scores at a place. -/
theorem scoreR_at (w : IVec S128x8192x4 32) (p : FVec Ideal S128x8192x4 .f32) (b : Fin 128) (n : Fin 8192) (c : Fin 4) :
    scoreR w p (ix3 b n c) = gum (w (ix3 b n c)) + Ideal.log (p (ix3 b n c) + Ideal.ofBits .f32 0x1E3CE508#32) := by
  have h : IntOp.shrui ArithUnit.host (w (ix3 b n c)) 9#32 = w (ix3 b n c) >>> 9#32 := if_pos (by decide)
  have hu : max (Ideal.ofBits .f32 8388608#32) (uni (w (ix3 b n c))) = uni (w (ix3 b n c)) := by
    obtain ⟨u, e, h1, _⟩ := uni_eq (w (ix3 b n c))
    rw [e, tiny_eq]
    exact max_eq_right (EReal.coe_le_coe_iff.mpr h1)
  pointwise [scoreR]
  rw [h]
  refine congrArg (· + Ideal.log (p (ix3 b n c) + Ideal.ofBits .f32 0x1E3CE508#32)) ?_
  unfold gum
  rw [← hu]
  rfl

/-- The result at a place. -/
theorem pickR_at (t : IVec S128 32) (g s : IVec S128x8192 32) (q : Fin 8) (r : Fin 16) (n : Fin 8192) :
    pickR t g s (ix3 q r n) = if t (ix1 ⟨16 * q.val + r.val, by omega⟩) = 0#32 then g (ix2 ⟨16 * q.val + r.val, by omega⟩ n) else s (ix2 ⟨16 * q.val + r.val, by omega⟩ n) := by
  pointwise [pickR]
  rw [select_eq]
  simp only [mul_comm q.val 16]

end Cert.Proof

end
-- ==== Proof.RefVal.lean ====
/- The reference's result at a place, from its arguments. -/
module

public import proofs.«01_k».proof.Proof.RefAt

@[expose] public section

noncomputable section

namespace Cert.Proof

open Cert.ReferenceIdeal Cert.ReferenceIdeal.Gen Cert.ReferenceIdeal.Value Idealize.ShloMosaic Idealize.ShloMosaic.TcCoe Idealize.ShloMosaic.StableHlo Idealize.SL.Sem

set_option maxRecDepth 16384

variable (V0 : Valuation τ sig (Elt Ideal))

/-- The categories. -/
def argX : IVec S128x8192 32 := V0 (Proc.devRef .tc main_arg0)

/-- The times. -/
def argTime : IVec S128 32 := V0 (Proc.devRef .tc main_arg1)

/-- The embedding. -/
def argE : FVec Ideal S4x256 .f32 := V0 (Proc.devRef .tc main_arg2)

/-- The time embedding. -/
def argT : FVec Ideal S100x256 .f32 := V0 (Proc.devRef .tc main_arg3)

/-- The head's weights. -/
def argW : FVec Ideal S256x4 .f32 := V0 (Proc.devRef .tc main_arg4)

/-- The head's bias. -/
def argB : FVec Ideal S4 .f32 := V0 (Proc.devRef .tc main_arg5)

/-- The reference's hidden layer, by its operations. -/
theorem v4_eq : (res_main_v4 V0 : FVec Ideal S128x8192x256 .f32)
    = hidR (okCat (wrapCat (argX V0))) (Host.gather gather_S4x256_S128x8192x1_S128x8192x256_2_0_n_n_0_2_1256 (argE V0) (wrapCat (argX V0)))
        (okTime (wrapTime (argTime V0))) (Host.gather gather_S100x256_S128x1_S128x256_1_0_n_n_0_1_1256 (argT V0) (wrapTime (argTime V0))) := rfl

/-- The reference's logits, by its operations. -/
theorem v21_eq : (res_main_v21 V0 : FVec Ideal S128x8192x4 .f32) = logitR (geluR (res_main_v4 V0)) (argW V0) (argB V0) := rfl

/-- The reference's exponentials, by its operations. -/
theorem v28_eq : (res_main_v28 V0 : FVec Ideal S128x8192x4 .f32) = expR (res_main_v21 V0) (maxR (res_main_v21 V0)) := rfl

/-- The reference's probabilities, by its operations. -/
theorem v32_eq : (res_main_v32 V0 : FVec Ideal S128x8192x4 .f32) = probR (res_main_v28 V0) := rfl

/-- The reference's scores, by its operations. -/
theorem v238_eq : (res_main_v238 V0 : FVec Ideal S128x8192x4 .f32) = scoreR (xori (hashR V0).1 (hashR V0).2) (res_main_v32 V0) := by
  rw [← hashR_fst, ← hashR_snd]
  rfl

/-- The reference's counter at a place. -/
theorem v46_at (b : Fin 128) (n : Fin 8192) (c : Fin 4) : (res_main_v46 V0 : IVec S128x8192x4 32) (ix3 b n c) = ctr b.val n.val c.val := by
  unfold res_main_v46
  clean_types
  pointwise []
  unfold ctr IntOp.addi IntOp.muli
  simp only [← BitVec.ofNat_add, ← BitVec.ofNat_mul]
  congr 1
  ring

/-- The reference's hidden number at a place. -/
theorem v4_at (b : Fin 128) (n : Fin 8192) (k : Fin 256) (v : Fin 4) (t : Fin 100) (hv : argX V0 (ix2 b n) = BitVec.ofNat 32 v.val) (ht : argTime V0 (ix1 b) = BitVec.ofNat 32 t.val) :
    (res_main_v4 V0 : FVec Ideal S128x8192x256 .f32) (ix3 b n k) = argT V0 (ix2 t k) + argE V0 (ix2 v k) := by
  have w0 := fun z => wrapCat_at (argX V0) b n z v hv
  have w1 := fun z => wrapTime_at (argTime V0) b z t ht
  have e0 : (⟨min (wrapCat (argX V0) (ix3 b n 0)).toInt.toNat 3, by omega⟩ : Fin 4) = v :=
    Fin.ext ((congrArg (fun w : BitVec 32 => min w.toInt.toNat 3) (w0 0)).trans (by clear * - v; revert v; decide))
  have e1 : (⟨min (wrapTime (argTime V0) (ix2 b 0)).toInt.toNat 99, by omega⟩ : Fin 100) = t :=
    Fin.ext ((congrArg (fun w : BitVec 32 => min w.toInt.toNat 99) (w1 0)).trans (by clear * - t; revert t; decide))
  rw [v4_eq, hidR_at _ _ _ _ b n k (okCat_at _ b n v w0) (okTime_at _ b t w1), gatherEmb_at, gatherTemb_at, e0, e1]
  exact add_comm (argE V0 (ix2 v k)) (argT V0 (ix2 t k))

/-- The reference's probabilities at a place. -/
theorem v32_at (b : Fin 128) (n : Fin 8192) (c : Fin 4) (v : Fin 4) (t : Fin 100) (hv : argX V0 (ix2 b n) = BitVec.ofNat 32 v.val) (ht : argTime V0 (ix1 b) = BitVec.ofNat 32 t.val) :
    (res_main_v32 V0 : FVec Ideal S128x8192x4 .f32) (ix3 b n c)
      = model (fun k => argE V0 (ix2 v k)) (fun k => argT V0 (ix2 t k)) (fun k u => argW V0 (ix2 k u)) (fun u => argB V0 (ix1 u)) c := by
  rw [v32_eq, probR_at, v28_eq]
  simp only [expR_at, maxR_at]
  rw [v21_eq]
  simp only [logitR_at, geluR_at, v4_at V0 b n _ v t hv ht]
  rfl

/-- The least index at which the largest of four numbers is attained, at a place. -/
theorem first_at (p : FVec Ideal S128x8192x4 .f32) (b : Fin 128) (n : Fin 8192) : minR (atMax p (maxR p)) (ix2 b n) = tourn fun c => p (ix3 b n c) := by
  rw [← least_eq, minR_at]
  simp only [atMax_at, maxR_at]
  unfold least
  generalize (max4 fun c => p (ix3 b n c)) = M
  split_ifs <;> decide

/-- The sampled or greedy category of a place, from its random words. -/
def chosen (b : ℕ) (n : ℕ) (t : BitVec 32) (p : Fin 4 → EReal) : BitVec 32 :=
  if t = 0#32 then tourn p else tourn fun c => gum (word (ctr b n c.val)) + Ideal.log (p c + Ideal.ofBits .f32 0x1E3CE508#32)

/-- The reference's result at a place. -/
theorem ref_at (q : Fin 8) (r : Fin 16) (n : Fin 8192) (b : Fin 128) (hb : b.val = 16 * q.val + r.val) (v : Fin 4) (t : Fin 100)
    (hv : argX V0 (ix2 b n) = BitVec.ofNat 32 v.val) (ht : argTime V0 (ix1 b) = BitVec.ofNat 32 t.val) :
    pickR (argTime V0) (minR (atMax (res_main_v32 V0) (maxR (res_main_v32 V0)))) (minR (atMax (res_main_v238 V0) (maxR (res_main_v238 V0)))) (ix3 q r n)
      = chosen b.val n.val (BitVec.ofNat 32 t.val) (model (fun k => argE V0 (ix2 v k)) (fun k => argT V0 (ix2 t k)) (fun k u => argW V0 (ix2 k u)) fun u => argB V0 (ix1 u)) := by
  have hlt : 16 * q.val + r.val < 128 := by clear * - q r; omega
  obtain rfl : b = ⟨16 * q.val + r.val, hlt⟩ := Fin.ext hb
  rw [pickR_at, ht, first_at, first_at, v238_eq]
  simp only [scoreR_at, hashR_at, v46_at, v32_at V0 _ n _ v t hv ht]
  rfl

end Cert.Proof

end
-- ==== Proof.Result.lean ====
/- The kernel's result at a place, and what the precondition says of the arguments. -/
module

public import proofs.«01_k».proof.Pre_in_range
public import proofs.«01_k».proof.Proof.Math
public import proofs.«01_k».proof.Proof.RefVal
public import Idealize.ShloMosaic.Lib.ReduceAll
public import Idealize.ShloMosaic.Lib.Affine

@[expose] public section

noncomputable section

namespace Cert.Proof

open Cert.KernelIdeal Cert.KernelIdeal.Gen Idealize.ShloMosaic Idealize.ShloMosaic.TcCoe Idealize.SL.Sem

set_option maxRecDepth 16384

/-- A category's word selects its own entry. -/
theorem pick_val (v : Fin 4) (f : Fin 4 → EReal) : pick (BitVec.ofNat 32 v.val) f = f v := by
  fin_cases v <;> simp [pick]

/-- The words of times below 100 are zero only at time 0, so a later time's table entry is the logarithm. -/
theorem entry_pos (t : BitVec 32) (h : t ≠ 0#32) (p : Fin 4 → EReal) (c : Fin 4) :
    entry t p c = Ideal.log (p c + Ideal.ofBits .f32 0x1E3CE508#32) := by
  unfold entry
  exact if_neg h

/-- The tournament of a table's row with Gumbel variates is the category the reference chooses. -/
theorem tourn_entry (b n : ℕ) (t : BitVec 32) (p : Fin 4 → EReal) :
    (tourn fun c => gum (word (ctr b n c.val)) + entry t p c) = chosen b n t p := by
  unfold chosen
  by_cases h : t = 0#32
  · rw [if_pos h, h]
    exact masked (fun c => word (ctr b n c.val)) p
  · rw [if_neg h]
    simp only [entry_pos t h]

variable (m : (ℓ : Loc nD τ sig) → Buf (Elt Ideal) ℓ)

/-- The kernel's result at a place. -/
theorem kernel_at (c : Dev nD) (q : Fin 8) (r : Fin 16) (n : Fin 8192) (b : Fin 128) (hb : b.val = 16 * q.val + r.val) (v : Fin 4) (t : Fin 100)
    (hv : (m ((c : Thread nD τ).loc main_arg0) : Vec Ideal S128x8192 .i32) (ix2 b n) = BitVec.ofNat 32 v.val)
    (ht : (m ((c : Thread nD τ).loc main_arg1) : Vec Ideal S128 .i32) (ix1 b) = BitVec.ofNat 32 t.val) :
    (dats m 0 c).arrAt 6 cfg0.N (ix3 q r n)
      = chosen b.val n.val (BitVec.ofNat 32 t.val) (model (fun k => (m ((c : Thread nD τ).loc main_arg2) : Vec Ideal S4x256 .f32) (ix2 v k))
          (fun k => (m ((c : Thread nD τ).loc main_arg3) : Vec Ideal S100x256 .f32) (ix2 t k))
          (fun k u => (m ((c : Thread nD τ).loc main_arg4) : Vec Ideal S256x4 .f32) (ix2 k u))
          (fun u => (m ((c : Thread nD τ).loc main_arg5) : Vec Ideal S4 .f32) (ix1 u))) := by
  have e := out_at m c ⟨q.val, lt_of_lt_of_eq q.isLt N_0.symm⟩ r n
  have hbat : bat (grid0.coords ⟨q.val, lt_of_lt_of_eq q.isLt N_0.symm⟩) r = b := by
    refine Fin.ext ?_
    unfold bat
    dsimp only
    rw [coords_at, hb]
  rw [cats_at m c _ r n, hbat, hv] at e
  rw [result_at m c q r n]
  refine e.trans ?_
  unfold cell
  simp only [pick_val, table_eq m c b v _ t ht]
  exact tourn_entry b.val n.val _ _

/-- A word that is neither negative nor as large as a bound, as a signed number, is a number below the bound. -/
theorem word_lt (k : ℕ) (hk : k < 2147483648) (x : BitVec 32) (e : IntOp.andi (IntOp.cmpi .sge x 0#32) (IntOp.cmpi .slt x (BitVec.ofNat 32 k)) = 1#1) :
    ∃ v : Fin k, x = BitVec.ofNat 32 v.val := by
  have e' : IntOp.cmpi .sge x 0#32 = 1#1 ∧ IntOp.cmpi .slt x (BitVec.ofNat 32 k) = 1#1 := by
    generalize IntOp.cmpi .sge x 0#32 = p at e
    generalize IntOp.cmpi .slt x (BitVec.ofNat 32 k) = q at e
    revert p q
    decide
  obtain ⟨h0, h1⟩ := e'
  rw [IntOp.cmpi_sge] at h0
  rw [IntOp.cmpi_slt] at h1
  have hkn : (BitVec.ofNat 32 k).toNat = k := by
    rw [BitVec.toNat_ofNat]
    exact Nat.mod_eq_of_lt (by omega)
  have hki : (BitVec.ofNat 32 k).toInt = k := by
    rw [BitVec.toInt_eq_toNat_cond, hkn, if_pos (by omega)]
  have hz : (0#32 : BitVec 32).toInt = 0 := by decide
  rw [hz] at h0
  rw [hki] at h1
  have hx := BitVec.toInt_eq_toNat_cond x
  have hlt := x.isLt
  refine ⟨⟨x.toNat, ?_⟩, ?_⟩
  · split at hx <;> omega
  · rw [BitVec.ofNat_toNat, BitVec.setWidth_eq]

variable [Cert.Pre_in_range.Facts]

/-- The precondition says that every category is one of the four and every time one of the hundred. -/
theorem in_range (x : IVec S128x8192 32) (t : IVec S128 32) (e : FVec Ideal S4x256 .f32) (te : FVec Ideal S100x256 .f32) (w : FVec Ideal S256x4 .f32) (bi : FVec Ideal S4 .f32)
    (h : Cert.Pre_in_range.fn (F := Ideal) x t e te w bi = fun _ => 1#1) :
    (∀ b n, ∃ v : Fin 4, x (ix2 b n) = BitVec.ofNat 32 v.val) ∧ ∀ b, ∃ v : Fin 100, t (ix1 b) = BitVec.ofNat 32 v.val := by
  have h0 := congrFun h ix0
  dsimp only [Cert.Pre_in_range.fn] at h0
  have both : ∀ p q : BitVec 1, IntOp.andi p q = 1#1 → p = 1#1 ∧ q = 1#1 := by decide
  obtain ⟨hx, ht⟩ := both _ _ h0
  haveI : Subsingleton (Cert.Pre_in_range.S_).Idx := ⟨fun a b => funext fun d => d.elim0⟩
  refine ⟨fun b n => ?_, fun b => ?_⟩
  · exact word_lt 4 (by decide) _ (Host.reduce_andi_all _ _ _ _ _ hx (ix2 b n))
  · exact word_lt 100 (by decide) _ (Host.reduce_andi_all _ _ _ _ _ ht (ix1 b))

end Cert.Proof

end
-- ==== Proof.lean ====
/- The whole claim: the frames (generated), the empty ledger of the kernel's idealization, and the kernel's result equal to the reference's
   over the extended reals. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import Idealize.ShloMosaic.Lib.Quiescent

@[expose] public section

noncomputable section

namespace Cert.Proof

open Idealize.ShloMosaic Idealize.ShloMosaic.TcCoe Idealize.ShloMosaic.StableHlo Idealize.SL.Sem

set_option maxRecDepth 16384

/-- The side conditions of the precondition's own operations. -/
theorem preFacts : Cert.Pre_in_range.Facts where
  bcast_S_S128x8192 := by decide
  reducesTo_S128x8192_S_d0_1 := by decide
  h_S_ := by decide
  bcast_S_S128 := by decide
  reducesTo_S128_S_d0 := by decide

/-- The reference runs, leaves its arguments as they were, and leaves every semaphore at zero. -/
theorem refFrame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result, by its operations, from what its memory holds at the start. -/
def refOut (V0 : Valuation Cert.ReferenceIdeal.τ Cert.ReferenceIdeal.sig (Elt Ideal)) : IVec Cert.ReferenceIdeal.S8x16x8192 32 :=
  pickR (argTime V0) (minR (atMax (Cert.ReferenceIdeal.Value.res_main_v32 V0) (maxR (Cert.ReferenceIdeal.Value.res_main_v32 V0))))
    (minR (atMax (Cert.ReferenceIdeal.Value.res_main_v238 V0) (maxR (Cert.ReferenceIdeal.Value.res_main_v238 V0))))

/-- The reference runs to that result and leaves its arguments as they were. -/
theorem refRun (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v257) = refOut (launchContents m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c => ⟨(h c).1.trans rfl, (h c).2⟩) (Cert.ReferenceIdeal.Value.run (F := Ideal) m' ρ)

/-- On arguments in range, the kernel's result is the reference's. -/
theorem same [hp : Cert.Pre_in_range.Facts] (c : Dev Cert.KernelIdeal.nD) (V0 : Valuation Cert.ReferenceIdeal.τ Cert.ReferenceIdeal.sig (Elt Ideal))
    (hm : Cert.Pre_KernelIdeal_in_range m)
    (h0 : argX V0 = m ((c : Thread Cert.KernelIdeal.nD Cert.KernelIdeal.τ).loc Cert.KernelIdeal.main_arg0))
    (h1 : argTime V0 = m ((c : Thread Cert.KernelIdeal.nD Cert.KernelIdeal.τ).loc Cert.KernelIdeal.main_arg1))
    (h2 : argE V0 = m ((c : Thread Cert.KernelIdeal.nD Cert.KernelIdeal.τ).loc Cert.KernelIdeal.main_arg2))
    (h3 : argT V0 = m ((c : Thread Cert.KernelIdeal.nD Cert.KernelIdeal.τ).loc Cert.KernelIdeal.main_arg3))
    (h4 : argW V0 = m ((c : Thread Cert.KernelIdeal.nD Cert.KernelIdeal.τ).loc Cert.KernelIdeal.main_arg4))
    (h5 : argB V0 = m ((c : Thread Cert.KernelIdeal.nD Cert.KernelIdeal.τ).loc Cert.KernelIdeal.main_arg5)) :
    refOut V0 = (Cert.KernelIdeal.Gen.dats m 0 c).arrAt 6 Cert.KernelIdeal.cfg0.N := by
  obtain ⟨hx, ht⟩ := in_range _ _ _ _ _ _ (hm c)
  have key : ∀ (q : Fin 8) (r : Fin 16) (n : Fin 8192),
      refOut V0 (ix3 q r n) = (Cert.KernelIdeal.Gen.dats m 0 c).arrAt 6 Cert.KernelIdeal.cfg0.N (ix3 q r n) := by
    intro q r n
    have hb : 16 * q.val + r.val < 128 := by omega
    obtain ⟨v, hv⟩ := hx ⟨16 * q.val + r.val, hb⟩ n
    obtain ⟨t, ht⟩ := ht ⟨16 * q.val + r.val, hb⟩
    have e := ref_at V0 q r n ⟨16 * q.val + r.val, hb⟩ rfl v t ((congrFun h0 _).trans hv) ((congrFun h1 _).trans ht)
    rw [h2, h3, h4, h5] at e
    exact e.trans (kernel_at m c q r n ⟨16 * q.val + r.val, hb⟩ rfl v t hv ht).symm
  funext y
  rw [eq_ix3 y]
  exact key (y 0) (y 1) (y 2)

end

/-- On arguments in range, kernel and reference end with equal results over the extended reals. -/
theorem algebraic : Cert.algebraic_KernelIdeal_ReferenceIdeal_pre_in_range (hKernelIdeal := Cert.KernelIdeal.Gen.facts)
    (hReferenceIdeal := Cert.ReferenceIdeal.Gen.facts) (hPre_in_range := preFacts) := by
  intro m g m' g' hm ha
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (refRun m' g')
  obtain ⟨a0, a1, a2, a3, a4, a5⟩ := ha c
  exact same (hp := preFacts) m c (launchContents m' c) hm a0 a1 a2 a3 a4 a5

/-- Every claim. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  refFrame, fun m ρ _ => refFrame m ρ trivial, trivial, algebraic⟩

end Cert.Proof

end
